-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S1x1 : Shape := ⟨2, ![1, 1]⟩
abbrev S1024x32 : Shape := ⟨2, ![1024, 32]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩
abbrev S1x1024x32 : Shape := ⟨3, ![1, 1024, 32]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 41
  | .vmem => 10
  | .smem => 1
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x8192, .i32⟩
  | .hbm, ⟨27, _⟩ => ⟨S1x8192, .i32⟩
  | .hbm, ⟨28, _⟩ => ⟨S8192x8192, .i32⟩
  | .hbm, ⟨29, _⟩ => ⟨S8192x8192, .i1⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S8192x32, .f32⟩
  | .hbm, ⟨34, _⟩ => ⟨S1x1, .f32⟩
  | .hbm, ⟨35, _⟩ => ⟨S1x1, .f32⟩
  | .hbm, ⟨36, _⟩ => ⟨S8x32x32x32, .f32⟩
  | .hbm, ⟨37, _⟩ => ⟨S8x32x32x32, .f32⟩
  | .hbm, ⟨38, _⟩ => ⟨S_, .f32⟩
  | .hbm, ⟨39, _⟩ => ⟨S_, .f32⟩
  | .hbm, ⟨40, _⟩ => ⟨S8192x1, .i32⟩
  | .local _ .vmem, ⟨0, _⟩ => ⟨S1024x32, .f32⟩
  | .local _ .vmem, ⟨1, _⟩ => ⟨S1024x32, .f32⟩
  | .local _ .vmem, ⟨2, _⟩ => ⟨S8192x32, .f32⟩
  | .local _ .vmem, ⟨3, _⟩ => ⟨S1024x1, .i32⟩
  | .local _ .vmem, ⟨4, _⟩ => ⟨S1024x1, .i32⟩
  | .local _ .vmem, ⟨5, _⟩ => ⟨S1024x32, .f32⟩
  | .local _ .vmem, ⟨6, _⟩ => ⟨S1024x32, .f32⟩
  | .local _ .vmem, ⟨7, _⟩ => ⟨S1x1, .f32⟩
  | .local _ .vmem, ⟨8, _⟩ => ⟨S1x1, .f32⟩
  | .local _ .vmem, ⟨9, _⟩ => ⟨S1x8192, .f32⟩
  | .local _ .smem, ⟨0, _⟩ => ⟨S1x1, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_cst_1 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_call0_v0 : Ref sig .tc := ⟨.hbm, 21, rfl⟩
abbrev main_call0_call0_cst : Ref sig .tc := ⟨.hbm, 22, rfl⟩
abbrev main_call0_call0_c : Ref sig .tc := ⟨.hbm, 23, rfl⟩
abbrev main_call0_call0_v1_0 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_v0_3 : Ref sig .tc := ⟨.hbm, 31, rfl⟩
abbrev main_call0_v23 : Ref sig .tc := ⟨.hbm, 32, rfl⟩
abbrev main_call0_v24_0 : Ref sig .tc := ⟨.hbm, 33, rfl⟩
abbrev main_call0_v24_1 : Ref sig .tc := ⟨.hbm, 34, rfl⟩
abbrev main_call0_v24_2 : Ref sig .tc := ⟨.hbm, 35, rfl⟩
abbrev main_call0_v25 : Ref sig .tc := ⟨.hbm, 36, rfl⟩
abbrev main_v0_1 : Ref sig .tc := ⟨.hbm, 37, rfl⟩
abbrev main_v0_0 : Ref sig .tc := ⟨.hbm, 38, rfl⟩
abbrev main_v0_2 : Ref sig .tc := ⟨.hbm, 39, rfl⟩
abbrev main_v0_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v156 : BitVec 1 := Scalar.cmpi .eq arg0 c7_i32
  let v157 : BitVec 32 := Scalar.extui v156
  let c0_i32_69 : BitVec 32 := 0#32
  let v158 : BitVec 1 := Scalar.cmpi .ne v157 c0_i32_69
  v158

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S8192x2 : Shape := ⟨2, ![8192, 2]⟩

abbrev nBuf : Space → Nat
  | .hbm => 84
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .f32⟩
  | .hbm, ⟨27, _⟩ => ⟨S8192x8192, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1, .i32⟩
  | .hbm, ⟨45, _⟩ => ⟨S8192x2, .i32⟩
  | .hbm, ⟨46, _⟩ => ⟨S_, .f32⟩
  | .hbm, ⟨47, _⟩ => ⟨S8192, .f32⟩
  | .hbm, ⟨48, _⟩ => ⟨S8192x8192, .f32⟩
  | .hbm, ⟨49, _⟩ => ⟨S8192x32, .f32⟩
  | .hbm, ⟨50, _⟩ => ⟨S8x32x32x32, .f32⟩
  | .hbm, ⟨51, _⟩ => ⟨S8x32x32x32, .f32⟩
  | .hbm, ⟨52, _⟩ => ⟨S8x32x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x32x32x32, .f32⟩
  | .hbm, ⟨60, _⟩ => ⟨S8x32x32x32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x32x32x32, .f32⟩
  | .hbm, ⟨67, _⟩ => ⟨S8x32x32x32, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8x32x32x32, .f32⟩
  | .hbm, ⟨83, _⟩ => ⟨S8192x1, .i32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.Ref.Line.lean ====
/-
  The reference program is a straight line of host operations. Here it is cut into five stretches, and @main is shown
  to be the stretches one after another:
  distances (`opsDist`), the index of the nearest code (`opsArg`), the one-hot matrix by a scatter (`opsHot`),
  the selected codes with the loss (`opsLoss`), and the straight-through output with the perplexity (`opsPerp`).
-/
module

public import proofs.«01_k».proof.ReferenceIdeal
public import Idealize.ShloMosaic.Lib.StableHlo.Run

@[expose] public section

noncomputable section

namespace Cert.ReferenceIdeal.Line

open Idealize.ShloMosaic Idealize.SL.Sem Cert.ReferenceIdeal

variable {F : FTy → Type} [FloatOps F] [Facts]

open Facts₀ Facts

/-- The squared distances of every row to every code, up to `main_v15`. -/
abbrev opsDist : List (HloOp τ sig (Elt F)) :=
  [ StableHlo.unary main_arg0 main_v0 ((transpose S8x32x32x32 [0, 2, 3, 1] · transposes_S8x32x32x32_S8x32x32x32_0_2_3_1) : (⟨S8x32x32x32, .f32⟩ : BufTy).Contents (Elt F) → (⟨S8x32x32x32, .f32⟩ : BufTy).Contents (Elt F)),
    StableHlo.reshape main_v0 main_v1 (rfl : (.f32 : EltTy) = .f32) shapeCasts_S8x32x32x32_S8192x32,
    StableHlo.binary main_v1 main_v1 main_v2 (mulf : (⟨S8192x32, .f32⟩ : BufTy).Contents (Elt F) → (⟨S8192x32, .f32⟩ : BufTy).Contents (Elt F) → (⟨S8192x32, .f32⟩ : BufTy).Contents (Elt F)),
    StableHlo.nullary main_cst (constant S_ .f32 0x00000000#32),
    StableHlo.binary main_v2 main_cst main_v3 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.binary main_arg1 main_arg1 main_v5 (mulf : (⟨S8192x32, .f32⟩ : BufTy).Contents (Elt F) → (⟨S8192x32, .f32⟩ : BufTy).Contents (Elt F) → (⟨S8192x32, .f32⟩ : BufTy).Contents (Elt F)),
    StableHlo.nullary main_cst_0 (constant S_ .f32 0x00000000#32),
    StableHlo.binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v6 main_v7 (broadcastInDim S1x8192 ![1] bcast_S8192_S1x8192_1 : (⟨S8192, .f32⟩ : BufTy).Contents (Elt F) → (⟨S1x8192, .f32⟩ : BufTy).Contents (Elt F)),
    StableHlo.unary main_v4 main_v8 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v7 main_v9 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v8 main_v9 main_v10 (addf : (⟨S8192x8192, .f32⟩ : BufTy).Contents (Elt F) → (⟨S8192x8192, .f32⟩ : BufTy).Contents (Elt F) → (⟨S8192x8192, .f32⟩ : BufTy).Contents (Elt F)),
    StableHlo.unary main_arg1 main_v11 ((transpose S32x8192 [1, 0] · transposes_S8192x32_S32x8192_1_0) : (⟨S8192x32, .f32⟩ : BufTy).Contents (Elt F) → (⟨S32x8192, .f32⟩ : BufTy).Contents (Elt F)),
    StableHlo.binary main_v1 main_v11 main_v12 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    StableHlo.nullary main_cst_1 (constant S_ .f32 0x40000000#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v13 main_v12 main_v14 (mulf : (⟨S8192x8192, .f32⟩ : BufTy).Contents (Elt F) → (⟨S8192x8192, .f32⟩ : BufTy).Contents (Elt F) → (⟨S8192x8192, .f32⟩ : BufTy).Contents (Elt F)),
    StableHlo.binary main_v10 main_v14 main_v15 (subf : (⟨S8192x8192, .f32⟩ : BufTy).Contents (Elt F) → (⟨S8192x8192, .f32⟩ : BufTy).Contents (Elt F) → (⟨S8192x8192, .f32⟩ : BufTy).Contents (Elt F)) ]

/-- The nearest code of every row, `main_v16`: the call of @argmin. -/
abbrev opsArg : List (HloOp τ sig (Elt F)) :=
  [ StableHlo.TRef.nullary (.of main_call0_v0) (iotaInDim S8192x8192 32 1),
    StableHlo.TRef.nullary (.of main_call0_cst) (constant S_ .f32 0x7F800000#32),
    StableHlo.TRef.nullary (.of main_call0_c) (constantI S_ 32 0#32),
    StableHlo.TRef.quaternary (.of main_v15) (.of main_call0_v0) (.of main_call0_cst) (.of main_call0_c) (.of main_call0_v1_0) (fun x y u v j => (Host.argReduce reducer_argmin_f32_i32 x y u v reducesTo_S8192x8192_S8192_d1 h_S_ j).1),
    StableHlo.TRef.quaternary (.of main_v15) (.of main_call0_v0) (.of main_call0_cst) (.of main_call0_c) (.of main_v16) (fun x y u v j => (Host.argReduce reducer_argmin_f32_i32 x y u v reducesTo_S8192x8192_S8192_d1 h_S_ j).2) ]

/-- The one-hot matrix `main_v33`: ones scattered into zeros. -/
abbrev opsHot : List (HloOp τ sig (Elt F)) :=
  [ StableHlo.nullary main_cst_2 (constant S_ .f32 0x00000000#32),
    StableHlo.unary main_cst_2 main_v17 (broadcastInDim S8192x8192 ![] bcast_S_S8192x8192 : (⟨S_, .f32⟩ : BufTy).Contents (Elt F) → (⟨S8192x8192, .f32⟩ : BufTy).Contents (Elt F)),
    StableHlo.nullary main_v18 (iotaInDim S8192 32 0),
    StableHlo.nullary main_c (constantI S_ 32 0#32),
    StableHlo.unary main_c main_v19 (broadcastInDim S8192 ![] bcast_S_S8192 : (⟨S_, .i32⟩ : BufTy).Contents (Elt F) → (⟨S8192, .i32⟩ : BufTy).Contents (Elt F)),
    StableHlo.binary main_v18 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v21 (broadcastInDim S8192 ![] bcast_S_S8192 : (⟨S_, .i32⟩ : BufTy).Contents (Elt F) → (⟨S8192, .i32⟩ : BufTy).Contents (Elt F)),
    StableHlo.binary main_v18 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v18 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v24 (broadcastInDim S8192 ![] bcast_S_S8192 : (⟨S_, .i32⟩ : BufTy).Contents (Elt F) → (⟨S8192, .i32⟩ : BufTy).Contents (Elt F)),
    StableHlo.binary main_v16 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v26 (broadcastInDim S8192 ![] bcast_S_S8192 : (⟨S_, .i32⟩ : BufTy).Contents (Elt F) → (⟨S8192, .i32⟩ : BufTy).Contents (Elt F)),
    StableHlo.binary main_v16 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v16 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)),
    StableHlo.binary main_v29 main_v30 main_v31 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.nullary main_cst_6 (constant S_ .f32 0x3F800000#32),
    StableHlo.unary main_cst_6 main_v32 (broadcastInDim S8192 ![] bcast_S_S8192 : (⟨S_, .f32⟩ : BufTy).Contents (Elt F) → (⟨S8192, .f32⟩ : BufTy).Contents (Elt F)),
    StableHlo.ternary main_v17 main_v31 main_v32 main_v33 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)) ]

/-- The selected codes `main_v34` and the loss `main_v45`. -/
abbrev opsLoss : List (HloOp τ sig (Elt F)) :=
  [ StableHlo.binary main_v33 main_arg1 main_v34 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    StableHlo.reshape main_v34 main_v35 (rfl : (.f32 : EltTy) = .f32) shapeCasts_S8192x32_S8x32x32x32,
    StableHlo.binary main_v35 main_v0 main_v36 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v36 main_v36 main_v37 (mulf : (⟨S8x32x32x32, .f32⟩ : BufTy).Contents (Elt F) → (⟨S8x32x32x32, .f32⟩ : BufTy).Contents (Elt F) → (⟨S8x32x32x32, .f32⟩ : BufTy).Contents (Elt F)),
    StableHlo.nullary main_cst_7 (constant S_ .f32 0x00000000#32),
    StableHlo.binary main_v37 main_cst_7 main_v38 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    StableHlo.nullary main_cst_8 (constant S_ .f32 0x48800000#32),
    StableHlo.binary main_v38 main_cst_8 main_v39 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x3E800000#32),
    StableHlo.binary main_cst_9 main_v39 main_v40 (mulf : (⟨S_, .f32⟩ : BufTy).Contents (Elt F) → (⟨S_, .f32⟩ : BufTy).Contents (Elt F) → (⟨S_, .f32⟩ : BufTy).Contents (Elt F)),
    StableHlo.binary main_v35 main_v0 main_v41 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v41 main_v41 main_v42 (mulf : (⟨S8x32x32x32, .f32⟩ : BufTy).Contents (Elt F) → (⟨S8x32x32x32, .f32⟩ : BufTy).Contents (Elt F) → (⟨S8x32x32x32, .f32⟩ : BufTy).Contents (Elt F)),
    StableHlo.nullary main_cst_10 (constant S_ .f32 0x00000000#32),
    StableHlo.binary main_v42 main_cst_10 main_v43 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    StableHlo.nullary main_cst_11 (constant S_ .f32 0x48800000#32),
    StableHlo.binary main_v43 main_cst_11 main_v44 (Host.divf : (⟨S_, .f32⟩ : BufTy).Contents (Elt F) → (⟨S_, .f32⟩ : BufTy).Contents (Elt F) → (⟨S_, .f32⟩ : BufTy).Contents (Elt F)),
    StableHlo.binary main_v40 main_v44 main_v45 (addf : (⟨S_, .f32⟩ : BufTy).Contents (Elt F) → (⟨S_, .f32⟩ : BufTy).Contents (Elt F) → (⟨S_, .f32⟩ : BufTy).Contents (Elt F)) ]

/-- The straight-through output `main_v58`, the perplexity `main_v57` and the indices `main_v59`. -/
abbrev opsPerp : List (HloOp τ sig (Elt F)) :=
  [ StableHlo.binary main_v35 main_v0 main_v46 (subf : (⟨S8x32x32x32, .f32⟩ : BufTy).Contents (Elt F) → (⟨S8x32x32x32, .f32⟩ : BufTy).Contents (Elt F) → (⟨S8x32x32x32, .f32⟩ : BufTy).Contents (Elt F)),
    StableHlo.binary main_v0 main_v46 main_v47 (addf : (⟨S8x32x32x32, .f32⟩ : BufTy).Contents (Elt F) → (⟨S8x32x32x32, .f32⟩ : BufTy).Contents (Elt F) → (⟨S8x32x32x32, .f32⟩ : BufTy).Contents (Elt F)),
    StableHlo.nullary main_cst_12 (constant S_ .f32 0x00000000#32),
    StableHlo.binary main_v33 main_cst_12 main_v48 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_cst_13 (constant S_ .f32 0x46000000#32),
    StableHlo.unary main_cst_13 main_v49 (broadcastInDim S8192 ![] bcast_S_S8192 : (⟨S_, .f32⟩ : BufTy).Contents (Elt F) → (⟨S8192, .f32⟩ : BufTy).Contents (Elt F)),
    StableHlo.binary main_v48 main_v49 main_v50 (Host.divf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x2EDBE6FF#32),
    StableHlo.unary main_cst_14 main_v51 (broadcastInDim S8192 ![] bcast_S_S8192 : (⟨S_, .f32⟩ : BufTy).Contents (Elt F) → (⟨S8192, .f32⟩ : BufTy).Contents (Elt F)),
    StableHlo.binary main_v50 main_v51 main_v52 (addf : (⟨S8192, .f32⟩ : BufTy).Contents (Elt F) → (⟨S8192, .f32⟩ : BufTy).Contents (Elt F) → (⟨S8192, .f32⟩ : BufTy).Contents (Elt F)),
    StableHlo.unary main_v52 main_v53 (Host.log : (⟨S8192, .f32⟩ : BufTy).Contents (Elt F) → (⟨S8192, .f32⟩ : BufTy).Contents (Elt F)),
    StableHlo.binary main_v50 main_v53 main_v54 (mulf : (⟨S8192, .f32⟩ : BufTy).Contents (Elt F) → (⟨S8192, .f32⟩ : BufTy).Contents (Elt F) → (⟨S8192, .f32⟩ : BufTy).Contents (Elt F)),
    StableHlo.nullary main_cst_15 (constant S_ .f32 0x00000000#32),
    StableHlo.binary main_v54 main_cst_15 main_v55 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v55 main_v56 (Host.negf : (⟨S_, .f32⟩ : BufTy).Contents (Elt F) → (⟨S_, .f32⟩ : BufTy).Contents (Elt F)),
    StableHlo.unary main_v56 main_v57 (Host.exp : (⟨S_, .f32⟩ : BufTy).Contents (Elt F) → (⟨S_, .f32⟩ : BufTy).Contents (Elt F)),
    StableHlo.unary main_v47 main_v58 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F)),
    StableHlo.unary main_v16 main_v59 (broadcastInDim S8192x1 ![0] bcast_S8192_S8192x1_0 : (⟨S8192, .i32⟩ : BufTy).Contents (Elt F) → (⟨S8192x1, .i32⟩ : BufTy).Contents (Elt F)) ]

/-- The first printed window of @main is the first four stretches. -/
theorem part0_eq (d : Dev nD) : main_part0 (F := F) d = StableHlo.seq (opsDist ++ (opsArg ++ (opsHot ++ opsLoss))) := rfl

/-- The second printed window of @main is the last stretch. -/
theorem part1_eq (d : Dev nD) : main_part1 (F := F) d = StableHlo.seq opsPerp := rfl

/-- @main is the five stretches in order. -/
theorem main_eq (d : Dev nD) :
    main (F := F) d = StableHlo.seq ((opsDist ++ (opsArg ++ (opsHot ++ opsLoss))) ++ opsPerp) := by
  rw [StableHlo.seq_append, ← part0_eq d, ← part1_eq d]
  rfl

end Cert.ReferenceIdeal.Line

end
-- ==== Proof.Ref.Terms.lean ====
/-
  The pure terms of the reference, one per stretch of its operations, over the arrays the stretch reads; and what each
  stretch leaves in the buffers the later ones read.
-/
module

public import proofs.«01_k».proof.Proof.Ref.Line
public import Idealize.ShloMosaic.Lib.Claim

@[expose] public section

noncomputable section

namespace Cert.ReferenceIdeal.Line

open Idealize.ShloMosaic Idealize.SL.Sem Cert.ReferenceIdeal

variable {F : FTy → Type} [FloatOps F] [Facts]

open Facts₀ Facts

/-- The input with its channels last. -/
abbrev chanLast (x : FVec F S8x32x32x32 .f32) : FVec F S8x32x32x32 .f32 :=
  transpose S8x32x32x32 [0, 2, 3, 1] x transposes_S8x32x32x32_S8x32x32x32_0_2_3_1

/-- The input as 8192 rows of 32 channels. -/
abbrev rows (x : FVec F S8x32x32x32 .f32) : FVec F S8192x32 .f32 :=
  shapeCast S8192x32 (chanLast x) shapeCasts_S8x32x32x32_S8192x32

/-- The squared distance of every row to every code. -/
def dist (x : FVec F S8x32x32x32 .f32) (w : FVec F S8192x32 .f32) : FVec F S8192x8192 .f32 :=
  subf
    (addf
      (broadcastInDim S8192x8192 ![0, 1] bcast_S8192x1_S8192x8192_0_1
        (broadcastInDim S8192x1 ![0] bcast_S8192_S8192x1_0
          (Host.reduceAdd (mulf (rows x) (rows x)) (constant S_ .f32 0x00000000#32) reducesTo_S8192x32_S8192_d1 h_S_)))
      (broadcastInDim S8192x8192 ![0, 1] bcast_S1x8192_S8192x8192_0_1
        (broadcastInDim S1x8192 ![1] bcast_S8192_S1x8192_1
          (Host.reduceAdd (mulf w w) (constant S_ .f32 0x00000000#32) reducesTo_S8192x32_S8192_d1 h_S_))))
    (mulf (broadcastInDim S8192x8192 ![] bcast_S_S8192x8192 (constant S_ .f32 0x40000000#32))
      (Host.dotGeneral dot_S8192x32_S32x8192_S8192x8192_1_0_0_1_n_n none (rows x)
        (transpose S32x8192 [1, 0] w transposes_S8192x32_S32x8192_1_0)))

/-- The column of each row's least entry. -/
def nearest (d : FVec F S8192x8192 .f32) : IVec S8192 32 := fun j =>
  (Host.argReduce reducer_argmin_f32_i32 d (iotaInDim S8192x8192 32 1) (constant S_ .f32 0x7F800000#32)
    (constantI S_ 32 0#32) reducesTo_S8192x8192_S8192_d1 h_S_ j).2

/-- An index word with 8192 added when it is negative. -/
def wrapped (i : IVec S8192 32) : IVec S8192 32 :=
  select (cmpi .slt i (broadcastInDim S8192 ![] bcast_S_S8192 (constantI S_ 32 0#32)))
    (addi i (broadcastInDim S8192 ![] bcast_S_S8192 (constantI S_ 32 8192#32))) i

/-- The pairs (row, code) at which the ones are scattered. -/
def pairs (i : IVec S8192 32) : IVec S8192x2 32 :=
  concatenate S8192x2 1
    [⟨S8192x1, broadcastInDim S8192x1 ![0] bcast_S8192_S8192x1_0 (wrapped (iotaInDim S8192 32 0))⟩,
     ⟨S8192x1, broadcastInDim S8192x1 ![0] bcast_S8192_S8192x1_0 (wrapped i)⟩]
    concatenates_S8192x1_S8192x1_S8192x2_d1

/-- The one-hot rows of the indices. -/
def oneHot (i : IVec S8192 32) : FVec F S8192x8192 .f32 :=
  Host.scatter scatter_S8192x8192_S8192x2_S8192_n_01_01_1 (fun _ b => b)
    (broadcastInDim S8192x8192 ![] bcast_S_S8192x8192 (constant S_ .f32 0x00000000#32)) (pairs i)
    (broadcastInDim S8192 ![] bcast_S_S8192 (constant S_ .f32 0x3F800000#32))

/-- The selected codes, one per row of the input, in the input's shape with the channels last. -/
def picked (e : FVec F S8192x8192 .f32) (w : FVec F S8192x32 .f32) : FVec F S8x32x32x32 .f32 :=
  shapeCast S8x32x32x32 (Host.dotGeneral dot_S8192x8192_S8192x32_S8192x32_1_0_0_1_n_n none e w)
    shapeCasts_S8192x32_S8x32x32x32

/-- The mean of the squared differences of two arrays. -/
def meanSq (q z : FVec F S8x32x32x32 .f32) : FVec F S_ .f32 :=
  Host.divf
    (Host.reduceAdd (mulf (subf q z) (subf q z)) (constant S_ .f32 0x00000000#32) reducesTo_S8x32x32x32_S_d0_1_2_3 h_S_)
    (constant S_ .f32 0x48800000#32)

/-- The loss. -/
def loss (q z : FVec F S8x32x32x32 .f32) : FVec F S_ .f32 :=
  addf (mulf (constant S_ .f32 0x3E800000#32) (meanSq q z)) (meanSq q z)

/-- How often each code is used, as a share of the rows. -/
def share (e : FVec F S8192x8192 .f32) : FVec F S8192 .f32 :=
  Host.divf (Host.reduceAdd e (constant S_ .f32 0x00000000#32) reducesTo_S8192x8192_S8192_d0 h_S_)
    (broadcastInDim S8192 ![] bcast_S_S8192 (constant S_ .f32 0x46000000#32))

/-- The perplexity of the code usage. -/
def perplexity (e : FVec F S8192x8192 .f32) : FVec F S_ .f32 :=
  Host.exp (Host.negf (Host.reduceAdd
    (mulf (share e) (Host.log (addf (share e)
      (broadcastInDim S8192 ![] bcast_S_S8192 (constant S_ .f32 0x2EDBE6FF#32)))))
    (constant S_ .f32 0x00000000#32) reducesTo_S8192_S_d0 h_S_))

/-- The straight-through output, channels second. -/
def through (q z : FVec F S8x32x32x32 .f32) : FVec F S8x32x32x32 .f32 :=
  transpose S8x32x32x32 [0, 3, 1, 2] (addf z (subf q z)) transposes_S8x32x32x32_S8x32x32x32_0_3_1_2

/-- The indices as a column. -/
def column (i : IVec S8192 32) : IVec S8192x1 32 := broadcastInDim S8192x1 ![0] bcast_S8192_S8192x1_0 i

variable (V : Valuation τ sig (Elt F))

/-- The first stretch leaves the distances. -/
theorem dist_v15 : StableHlo.after opsDist V (Proc.devRef .tc main_v15)
    = dist (V (Proc.devRef .tc main_arg0)) (V (Proc.devRef .tc main_arg1)) := by
  after_results; rfl

/-- The first stretch leaves the input with its channels last. -/
theorem dist_v0 : StableHlo.after opsDist V (Proc.devRef .tc main_v0) = chanLast (V (Proc.devRef .tc main_arg0)) := by
  after_results

/-- The second stretch leaves the nearest codes. -/
theorem arg_v16 : StableHlo.after opsArg V (Proc.devRef .tc main_v16) = nearest (V (Proc.devRef .tc main_v15)) := by
  after_results; rfl

/-- The third stretch leaves the one-hot rows. -/
theorem hot_v33 : StableHlo.after opsHot V (Proc.devRef .tc main_v33) = oneHot (V (Proc.devRef .tc main_v16)) := by
  after_results; rfl

/-- The fourth stretch leaves the selected codes. -/
theorem loss_v35 : StableHlo.after opsLoss V (Proc.devRef .tc main_v35)
    = picked (V (Proc.devRef .tc main_v33)) (V (Proc.devRef .tc main_arg1)) := by
  after_results; rfl

/-- The fourth stretch leaves the loss. -/
theorem loss_v45 : StableHlo.after opsLoss V (Proc.devRef .tc main_v45)
    = loss (picked (V (Proc.devRef .tc main_v33)) (V (Proc.devRef .tc main_arg1))) (V (Proc.devRef .tc main_v0)) := by
  after_results; rfl

/-- The last stretch leaves the perplexity. -/
theorem perp_v57 : StableHlo.after opsPerp V (Proc.devRef .tc main_v57) = perplexity (V (Proc.devRef .tc main_v33)) := by
  after_results; rfl

/-- The last stretch leaves the straight-through output. -/
theorem perp_v58 : StableHlo.after opsPerp V (Proc.devRef .tc main_v58)
    = through (V (Proc.devRef .tc main_v35)) (V (Proc.devRef .tc main_v0)) := by
  after_results; rfl

/-- The last stretch leaves the indices as a column. -/
theorem perp_v59 : StableHlo.after opsPerp V (Proc.devRef .tc main_v59) = column (V (Proc.devRef .tc main_v16)) := by
  after_results; rfl

end Cert.ReferenceIdeal.Line

end
-- ==== Proof.Ref.Run.lean ====
/-
  The run of the reference: every execution ends, the arguments are unchanged, and each result buffer holds its pure
  term of the arguments.
-/
module

public import proofs.«01_k».proof.Proof.Ref.Terms
public import Idealize.ShloMosaic.Lib.Quiescent

@[expose] public section

noncomputable section

namespace Cert.ReferenceIdeal.Line

open Idealize.ShloMosaic Idealize.SL.Sem Cert.ReferenceIdeal

variable {F : FTy → Type} [FloatOps F] [Facts]

open Facts₀ Facts

/-- Running one list of operations and then another is running their concatenation. -/
theorem after_append' {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

variable (V : Valuation τ sig (Elt F))

/-- What the first two stretches leave of the arguments, the transposed input and the indices. -/
theorem early :
    let U := StableHlo.after opsArg (StableHlo.after opsDist V)
    U (Proc.devRef .tc main_arg0) = V (Proc.devRef .tc main_arg0)
      ∧ U (Proc.devRef .tc main_arg1) = V (Proc.devRef .tc main_arg1)
      ∧ U (Proc.devRef .tc main_v0) = chanLast (V (Proc.devRef .tc main_arg0))
      ∧ U (Proc.devRef .tc main_v16)
        = nearest (dist (V (Proc.devRef .tc main_arg0)) (V (Proc.devRef .tc main_arg1))) := by
  refine ⟨?_, ?_, ?_, ?_⟩
  · rw [show StableHlo.after opsArg (StableHlo.after opsDist V) (Proc.devRef .tc main_arg0)
      = StableHlo.after opsDist V (Proc.devRef .tc main_arg0) by
        generalize StableHlo.after opsDist V = U; after_results]
    after_results
  · rw [show StableHlo.after opsArg (StableHlo.after opsDist V) (Proc.devRef .tc main_arg1)
      = StableHlo.after opsDist V (Proc.devRef .tc main_arg1) by
        generalize StableHlo.after opsDist V = U; after_results]
    after_results
  · rw [show StableHlo.after opsArg (StableHlo.after opsDist V) (Proc.devRef .tc main_v0)
      = StableHlo.after opsDist V (Proc.devRef .tc main_v0) by
        generalize StableHlo.after opsDist V = U; after_results]
    exact dist_v0 V
  · rw [arg_v16, dist_v15]

/-- The third stretch keeps what the later ones read beside its own result. -/
theorem hot_keeps :
    let U := StableHlo.after opsHot V
    U (Proc.devRef .tc main_arg0) = V (Proc.devRef .tc main_arg0)
      ∧ U (Proc.devRef .tc main_arg1) = V (Proc.devRef .tc main_arg1)
      ∧ U (Proc.devRef .tc main_v0) = V (Proc.devRef .tc main_v0)
      ∧ U (Proc.devRef .tc main_v16) = V (Proc.devRef .tc main_v16) := by
  refine ⟨?_, ?_, ?_, ?_⟩ <;> after_results

/-- The fourth stretch keeps what the last reads beside its own results. -/
theorem loss_keeps :
    let U := StableHlo.after opsLoss V
    U (Proc.devRef .tc main_arg0) = V (Proc.devRef .tc main_arg0)
      ∧ U (Proc.devRef .tc main_arg1) = V (Proc.devRef .tc main_arg1)
      ∧ U (Proc.devRef .tc main_v0) = V (Proc.devRef .tc main_v0)
      ∧ U (Proc.devRef .tc main_v16) = V (Proc.devRef .tc main_v16)
      ∧ U (Proc.devRef .tc main_v33) = V (Proc.devRef .tc main_v33) := by
  refine ⟨?_, ?_, ?_, ?_, ?_⟩ <;> after_results

/-- The last stretch keeps the arguments and the results before it. -/
theorem perp_keeps :
    let U := StableHlo.after opsPerp V
    U (Proc.devRef .tc main_arg0) = V (Proc.devRef .tc main_arg0)
      ∧ U (Proc.devRef .tc main_arg1) = V (Proc.devRef .tc main_arg1)
      ∧ U (Proc.devRef .tc main_v45) = V (Proc.devRef .tc main_v45)
      ∧ U (Proc.devRef .tc main_v33) = V (Proc.devRef .tc main_v33) := by
  refine ⟨?_, ?_, ?_, ?_⟩ <;> after_results

/-- The indices the reference computes from its arguments. -/
abbrev codes (x : FVec F S8x32x32x32 .f32) (w : FVec F S8192x32 .f32) : IVec S8192 32 := nearest (dist x w)

/-- The selected codes of the arguments. -/
abbrev chosen (x : FVec F S8x32x32x32 .f32) (w : FVec F S8192x32 .f32) : FVec F S8x32x32x32 .f32 :=
  picked (oneHot (codes x w)) w

/-- All five stretches. -/
abbrev opsAll : List (HloOp τ sig (Elt F)) := (opsDist ++ (opsArg ++ (opsHot ++ opsLoss))) ++ opsPerp

/-- The arguments and the results after all five stretches. -/
theorem final :
    let U := StableHlo.after opsAll V
    let x := V (Proc.devRef .tc main_arg0)
    let w := V (Proc.devRef .tc main_arg1)
    U (Proc.devRef .tc main_arg0) = x ∧ U (Proc.devRef .tc main_arg1) = w
      ∧ U (Proc.devRef .tc main_v45) = loss (chosen x w) (chanLast x)
      ∧ U (Proc.devRef .tc main_v58) = through (chosen x w) (chanLast x)
      ∧ U (Proc.devRef .tc main_v57) = perplexity (oneHot (codes x w))
      ∧ U (Proc.devRef .tc main_v33) = oneHot (codes x w)
      ∧ U (Proc.devRef .tc main_v59) = column (codes x w) := by
  dsimp only
  obtain ⟨e0, e1, e2, e3⟩ := early V
  rw [opsAll, after_append', after_append', after_append', after_append']
  revert e0 e1 e2 e3
  generalize StableHlo.after opsArg (StableHlo.after opsDist V) = A
  intro e0 e1 e2 e3
  obtain ⟨h0, h1, h2, h3⟩ := hot_keeps A
  have h4 := hot_v33 A
  revert h0 h1 h2 h3 h4
  generalize StableHlo.after opsHot A = B
  intro h0 h1 h2 h3 h4
  obtain ⟨l0, l1, l2, l3, l4⟩ := loss_keeps B
  have l5 := loss_v35 B
  have l6 := loss_v45 B
  revert l0 l1 l2 l3 l4 l5 l6
  generalize StableHlo.after opsLoss B = C
  intro l0 l1 l2 l3 l4 l5 l6
  obtain ⟨p0, p1, p2, p3⟩ := perp_keeps C
  rw [perp_v57, perp_v58, perp_v59, p0, p1, p2, p3, l0, l1, l2, l3, l4, l5, l6, h0, h1, h2, h3, h4, e0, e1, e2, e3]
  exact ⟨rfl, rfl, rfl, rfl, rfl, rfl, rfl⟩

/-- No operation of the line leaves a result open. -/
theorem fresh_none : ∀ op ∈ (opsAll : List (HloOp τ sig (Elt F))), op.fresh = ∅ := by
  intro _ h
  simp only [opsAll, List.cons_append, List.nil_append] at h
  (repeat (cases h with | head => rfl | tail _ h => ?_)); exact nomatch h

/-- Every operation of the line works on buffers of the TensorCore. -/
theorem bufs_sub : (opsAll : List (HloOp τ sig (Elt F))).Forall fun op => op.bufs ⊆ StableHlo.tcRefs τ sig := by
  simp

/-- The run of the reference from any memory with zero counters. -/
theorem run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      let x := m ((c.tc : Thread nD τ).loc main_arg0)
      let w := m ((c.tc : Thread nD τ).loc main_arg1)
      r.2.mem ((c.tc : Thread nD τ).loc main_arg0) = x ∧ r.2.mem ((c.tc : Thread nD τ).loc main_arg1) = w
      ∧ r.2.mem ((c.tc : Thread nD τ).loc main_v45) = loss (chosen x w) (chanLast x)
      ∧ r.2.mem ((c.tc : Thread nD τ).loc main_v58) = through (chosen x w) (chanLast x)
      ∧ r.2.mem ((c.tc : Thread nD τ).loc main_v57) = perplexity (oneHot (codes x w))
      ∧ r.2.mem ((c.tc : Thread nD τ).loc main_v33) = oneHot (codes x w)
      ∧ r.2.mem ((c.tc : Thread nD τ).loc main_v59) = column (codes x w))
      ∧ r.2.sem = fun _ => 0 := by
  refine θ_run_mono (StableHlo.run_seq (by decide) (by decide) defs main (fun _ => opsAll) main_eq
    (fun _ => bufs_sub) m ρ (fun _ => fresh_none)) ?_
  intro r hr
  refine ⟨fun c => ?_, sem_eq_zero_of_no_sems (by decide) r.2⟩
  dsimp only
  rw [hr c main_arg0, hr c main_arg1, hr c main_v45, hr c main_v58, hr c main_v57, hr c main_v33, hr c main_v59]
  exact final (StableHlo.launchContents m c)

end Cert.ReferenceIdeal.Line

end
-- ==== Proof.Ker.Tile.lean ====
/-
  ONE TILE OF THE KERNEL, READ ELEMENT BY ELEMENT AT `Ideal`: what each stored value of the kernel's body is as a plain
  sum over the code book's rows or over the tile's rows.
-/
module

public import proofs.«01_k».proof.Proof.Gen.KernelIdeal.Skeleton
public import Idealize.ShloMosaic.Lib.Pointwise
public import Idealize.ShloMosaic.Lib.IdealHost
public import Idealize.ShloMosaic.Lib.Pipeline.Value

@[expose] public section

noncomputable section

namespace Cert.KernelIdeal.Tile

open Cert.KernelIdeal Cert.KernelIdeal.Gen Idealize.ShloMosaic
open scoped BigOperators

variable [Facts]

/-- The entry of a one-hot row: 1 at the column the word names, 0 elsewhere. -/
def hot (i : BitVec 32) (n : ℕ) : EReal := if i = BitVec.ofNat 32 n then 1 else 0

/-- The kernel's comparison of a column's number with a row's word, converted to a float, is the one-hot entry. -/
theorem hot_word (i : BitVec 32) (j o : ℕ) :
    (FloatOps.sitofp .f32 (BitVec.setWidth 32 (IntOp.cmpi .eq (IntOp.addi (BitVec.ofNat 32 j) (BitVec.ofNat 32 o)) i)) : Ideal .f32)
      = hot i (o + j) := by
  have e : IntOp.addi (BitVec.ofNat 32 j) (BitVec.ofNat 32 o) = BitVec.ofNat 32 (o + j) := by
    show BitVec.ofNat 32 j + BitVec.ofNat 32 o = _
    rw [← BitVec.ofNat_add, Nat.add_comm]
  rw [e]
  unfold hot
  by_cases h : i = BitVec.ofNat 32 (o + j)
  · rw [if_pos h, ← h]
    have : IntOp.cmpi .eq i i = 1#1 := by simp [IntOp.cmpi]
    rw [this]
    show (((1 : ℤ) : ℝ) : EReal) = 1
    norm_num
  · rw [if_neg h]
    have : IntOp.cmpi .eq (BitVec.ofNat 32 (o + j)) i = 0#1 := by
      show BitVec.ofBool (BitVec.ofNat 32 (o + j) == i) = 0#1
      rw [beq_eq_false_iff_ne.mpr (Ne.symm h)]; rfl
    rw [this]
    show (((0 : ℤ) : ℝ) : EReal) = 0
    norm_num

/-! ## The eight one-hot chunks -/

variable (v : IVec S1024x1 32) (r j : Fin 1024)

theorem hot0 : k0_pay7 (F := Ideal) v (ix2 r j) = hot (v (ix2 r 0)) j.val := by
  unfold k0_pay7 k0_pay6; pointwise; exact (hot_word _ j.val 0).trans (congrArg (hot _) (Nat.zero_add _))
theorem hot1 : k0_pay9 (F := Ideal) v (ix2 r j) = hot (v (ix2 r 0)) (1024 + j.val) := by
  unfold k0_pay9 k0_pay6; pointwise; exact hot_word _ _ _
theorem hot2 : k0_pay12 (F := Ideal) v (ix2 r j) = hot (v (ix2 r 0)) (2048 + j.val) := by
  unfold k0_pay12; pointwise; exact hot_word _ _ _
theorem hot3 : k0_pay14 (F := Ideal) v (ix2 r j) = hot (v (ix2 r 0)) (3072 + j.val) := by
  unfold k0_pay14; pointwise; exact hot_word _ _ _
theorem hot4 : k0_pay18 (F := Ideal) v (ix2 r j) = hot (v (ix2 r 0)) (4096 + j.val) := by
  unfold k0_pay18; pointwise; exact hot_word _ _ _
theorem hot5 : k0_pay20 (F := Ideal) v (ix2 r j) = hot (v (ix2 r 0)) (5120 + j.val) := by
  unfold k0_pay20; pointwise; exact hot_word _ _ _
theorem hot6 : k0_pay23 (F := Ideal) v (iota .tc S1024x1024 32 [1] iota_S1024x1024_d1_w32) (ix2 r j)
    = hot (v (ix2 r 0)) (6144 + j.val) := by
  unfold k0_pay23; pointwise; exact hot_word _ _ _
theorem hot7 : k0_pay25 (F := Ideal) v (ix2 r j) = hot (v (ix2 r 0)) (7168 + j.val) := by
  unfold k0_pay25; pointwise; exact hot_word _ _ _

/-- The block of code words is used as it is read. -/
theorem words : k0_pay6 (F := Ideal) v = v := by
  funext y; unfold k0_pay6; pointwise

/-- The block of inputs is used as it is read. -/
theorem input (z : Vec Ideal S1024x32 .f32) : k0_pay5 (F := Ideal) z = z := by
  funext y; unfold k0_pay5; pointwise

/-! ## The column counts: a stored piece is the piece it found plus the chunk's column sums -/

variable (o : Vec Ideal S1x1024 .f32)

theorem count0 : k0_pay8 (F := Ideal) v o (ix2 0 j) = o (ix2 0 j) + ∑ r : Fin 1024, hot (v (ix2 r 0)) j.val := by
  unfold k0_pay8; pointwise; simp only [hot0]
theorem count1 : k0_pay11 (F := Ideal) (k0_pay9 (F := Ideal) v) o (ix2 0 j)
    = o (ix2 0 j) + ∑ r : Fin 1024, hot (v (ix2 r 0)) (1024 + j.val) := by
  unfold k0_pay11; pointwise; simp only [hot1]
theorem count2 : k0_pay13 (F := Ideal) v o (ix2 0 j) = o (ix2 0 j) + ∑ r : Fin 1024, hot (v (ix2 r 0)) (2048 + j.val) := by
  unfold k0_pay13; pointwise; simp only [hot2]
theorem count3 : k0_pay17 (F := Ideal) (k0_pay16 (F := Ideal) v o) (ix2 0 j)
    = o (ix2 0 j) + ∑ r : Fin 1024, hot (v (ix2 r 0)) (3072 + j.val) := by
  unfold k0_pay17 k0_pay16; pointwise; simp only [hot3]
theorem count4 : k0_pay19 (F := Ideal) v o (ix2 0 j) = o (ix2 0 j) + ∑ r : Fin 1024, hot (v (ix2 r 0)) (4096 + j.val) := by
  unfold k0_pay19; pointwise; simp only [hot4]
theorem count5 : k0_pay22 (F := Ideal) v o (ix2 0 j) = o (ix2 0 j) + ∑ r : Fin 1024, hot (v (ix2 r 0)) (5120 + j.val) := by
  unfold k0_pay22; pointwise; simp only [hot5]
theorem count6 : k0_pay24 (F := Ideal) v (iota .tc S1024x1024 32 [1] iota_S1024x1024_d1_w32) o (ix2 0 j)
    = o (ix2 0 j) + ∑ r : Fin 1024, hot (v (ix2 r 0)) (6144 + j.val) := by
  unfold k0_pay24; pointwise; exact congrArg _ (Finset.sum_congr rfl fun r _ => hot6 v r j)
theorem count7 : k0_pay27 (F := Ideal) v o (ix2 0 j) = o (ix2 0 j) + ∑ r : Fin 1024, hot (v (ix2 r 0)) (7168 + j.val) := by
  unfold k0_pay27; pointwise; simp only [hot7]

/-! ## The looked-up rows: eight products of a chunk with a stretch of the code book -/

/-- A sum over the first 8192 numbers, taken in eight stretches of 1024. -/
theorem sum_chunks (f : ℕ → EReal) :
    (∑ k : Fin 1024, f k.val) + (∑ k : Fin 1024, f (1024 + k.val)) + (∑ k : Fin 1024, f (2048 + k.val))
      + (∑ k : Fin 1024, f (3072 + k.val)) + (∑ k : Fin 1024, f (4096 + k.val)) + (∑ k : Fin 1024, f (5120 + k.val))
      + (∑ k : Fin 1024, f (6144 + k.val)) + (∑ k : Fin 1024, f (7168 + k.val)) = ∑ n : Fin 8192, f n.val := by
  have e : ∀ m : ℕ, ∑ k : Fin 1024, f (m + k.val) = ∑ k ∈ Finset.range 1024, f (m + k) :=
    fun m => Fin.sum_univ_eq_sum_range (fun k => f (m + k)) 1024
  have s : ∀ a b : ℕ, (∑ x ∈ Finset.range a, f x) + (∑ x ∈ Finset.range b, f (a + x)) = ∑ x ∈ Finset.range (a + b), f x :=
    fun a b => (Finset.sum_range_add f a b).symm
  rw [Fin.sum_univ_eq_sum_range f 1024]
  simp only [e]
  rw [s 1024 1024, s 2048 1024, s 3072 1024, s 4096 1024, s 5120 1024, s 6144 1024, s 7168 1024]
  exact (Fin.sum_univ_eq_sum_range f 8192).symm

variable (w : Vec Ideal S8192x32 .f32)

/-- Entry `n` of column `c` of the code book, by a plain number. -/
def bookAt (c : Fin 32) (n : ℕ) : EReal := if h : n < 8192 then w (ix2 ⟨n, h⟩ c) else 0

theorem ld_book (off : ℕ) (hoff : off + 1024 ≤ 8192) (inb : ∀ a, (![off, 0] : Fin 2 → ℕ) a + (![1024, 32] : Fin 2 → ℕ) a ≤ S8192x32.size a)
    (k : Fin 1024) (c : Fin 32) :
    View.ld w (Rect.unit ![off, 0] ![1024, 32] inb) (ix2 k c) = bookAt w c (off + k.val) := by
  unfold bookAt
  rw [dif_pos (by omega)]
  refine congrArg w (funext fun a => Fin.ext ?_)
  fin_cases a
  · show off + 1 * k.val = off + k.val
    omega
  · show 0 + 1 * c.val = c.val
    omega

/-- The kernel's sum of eight products, each over its own stretch of the code book. -/
def acc (v : IVec S1024x1 32) (w0 w1 w2 w3 w4 w5 w6 w7 : Vec Ideal S1024x32 .f32) : FVec Ideal S1024x32 .f32 :=
  k0_pay26 (F := Ideal) v (k0_pay21 (F := Ideal) v (k0_pay15 (F := Ideal) v (k0_pay10 (F := Ideal) v w0 w1) w2 w3) w4 w5)
    (iota .tc S1024x1024 32 [1] iota_S1024x1024_d1_w32) w6 w7

theorem acc_apply (w0 w1 w2 w3 w4 w5 w6 w7 : Vec Ideal S1024x32 .f32) (c : Fin 32)
    (h0 : ∀ k : Fin 1024, w0 (ix2 k c) = bookAt w c k.val) (h1 : ∀ k : Fin 1024, w1 (ix2 k c) = bookAt w c (1024 + k.val))
    (h2 : ∀ k : Fin 1024, w2 (ix2 k c) = bookAt w c (2048 + k.val)) (h3 : ∀ k : Fin 1024, w3 (ix2 k c) = bookAt w c (3072 + k.val))
    (h4 : ∀ k : Fin 1024, w4 (ix2 k c) = bookAt w c (4096 + k.val)) (h5 : ∀ k : Fin 1024, w5 (ix2 k c) = bookAt w c (5120 + k.val))
    (h6 : ∀ k : Fin 1024, w6 (ix2 k c) = bookAt w c (6144 + k.val)) (h7 : ∀ k : Fin 1024, w7 (ix2 k c) = bookAt w c (7168 + k.val)) :
    acc v w0 w1 w2 w3 w4 w5 w6 w7 (ix2 r c) = ∑ n : Fin 8192, hot (v (ix2 r 0)) n.val * w (ix2 n c) := by
  have e : ∀ n : Fin 8192, w (ix2 n c) = bookAt w c n.val := fun n => by unfold bookAt; rw [dif_pos n.isLt]
  simp only [e]
  rw [← sum_chunks fun n => hot (v (ix2 r 0)) n * bookAt w c n]
  have g : ∀ k, k0_pay23 (F := Ideal) v (iota .tc S1024x1024 32 [1] iota_S1024x1024_d1_w32) (ix2 r k)
    = hot (v (ix2 r 0)) (6144 + k.val) := fun k => hot6 v r k
  unfold acc
  generalize iota .tc S1024x1024 32 [1] iota_S1024x1024_d1_w32 = I at g ⊢
  unfold k0_pay26 k0_pay21 k0_pay15 k0_pay10
  pointwise
  simp only [hot0, hot1, hot2, hot3, hot4, hot5, g, hot7, h0, h1, h2, h3, h4, h5, h6, h7]

/-! ## The running loss, and the two scalars of the last point -/

theorem lossStep (d : Vec Ideal S1024x32 .f32) (x : Ideal .f32) :
    k0_pay1 (F := Ideal) d x = x + ∑ r : Fin 1024, ∑ c : Fin 32, d (ix2 r c) * d (ix2 r c) := by
  unfold k0_pay1; pointwise

end Cert.KernelIdeal.Tile
-- ==== Proof.Ker.Cases.lean ====
/-
  WHAT EACH CASE OF THE KERNEL'S BODY LEAVES, AT `Ideal`. The body has three cases: the first point (its scratch is
  reset first), the points between, and the last point (which also stores the two scalars). For each case and each buffer
  it stores, the contents in plain terms: the output tile (`tileOut`), the counts (`tileCount`), the running loss
  (`tileLoss`) and, at the last point, the two scalars as the stored values over those.
-/
module

public import proofs.«01_k».proof.Proof.Gen.KernelIdeal.Frame
public import proofs.«01_k».proof.Proof.Ker.Tile

@[expose] public section

set_option maxRecDepth 16384

noncomputable section

namespace Cert.KernelIdeal.Cases

open Cert.KernelIdeal Cert.KernelIdeal.Gen Cert.KernelIdeal.Tile Idealize.ShloMosaic Idealize.ShloMosaic.Pipeline
open scoped BigOperators

variable [Facts]

/-! ## The values in plain terms -/

/-- The code book's rows a tile's words name. -/
def tileRows (w : Vec Ideal S8192x32 .f32) (v : Vec Ideal S1024x1 .i32) : Vec Ideal S1024x32 .f32 :=
  fun y => ∑ n : Fin 8192, hot (v (ix2 (y 0) 0)) n.val * w (ix2 n (y 1))

/-- The output tile: the input plus the difference of the named rows and the input. -/
def tileOut (z : Vec Ideal S1024x32 .f32) (w : Vec Ideal S8192x32 .f32) (v : Vec Ideal S1024x1 .i32) : Vec Ideal S1024x32 .f32 :=
  fun y => z y + (tileRows w v y - z y)

/-- How many of a tile's words name code `n`. -/
def tally (v : Vec Ideal S1024x1 .i32) (n : ℕ) : EReal := ∑ r : Fin 1024, hot (v (ix2 r 0)) n

/-- The counts after a tile. -/
def tileCount (v : Vec Ideal S1024x1 .i32) (o : Vec Ideal S1x8192 .f32) : Vec Ideal S1x8192 .f32 :=
  fun y => o y + tally v (y 1).val

/-- The running loss after a tile. -/
def tileLoss (z : Vec Ideal S1024x32 .f32) (w : Vec Ideal S8192x32 .f32) (v : Vec Ideal S1024x1 .i32) (x : Ideal .f32) : Ideal .f32 :=
  x + ∑ r : Fin 1024, ∑ c : Fin 32, (tileRows w v (ix2 r c) - z (ix2 r c)) * (tileRows w v (ix2 r c) - z (ix2 r c))

theorem hz : (![0, 0] : Fin 2 → Nat) = fun _ => 0 := funext fun a => by fin_cases a <;> rfl

/-- The one word of a one-element array. -/
theorem ld_one (x : Vec Ideal S1x1 .f32) (inb : ∀ a, (![0, 0] : Fin 2 → ℕ) a + (![1, 1] : Fin 2 → ℕ) a ≤ S1x1.size a)
    (y : (Rect.unit (s := S1x1) ![0, 0] ![1, 1] inb).shape.Idx) :
    View.ld x (Rect.unit ![0, 0] ![1, 1] inb) y = x (ix2 0 0) :=
  congrArg x (funext fun a => Fin.ext (by
    have h1 : ∀ z : S1x1.Idx, (z a).val = 0 := fun z => by
      have := (z a).isLt
      fin_cases a
      · exact Nat.lt_one_iff.mp this
      · exact Nat.lt_one_iff.mp this
    exact (h1 _).trans (h1 _).symm))

/-- The kernel's sum of eight products over the stretches of the code book is `tileRows`. -/
theorem acc_eq (w : Vec Ideal S8192x32 .f32) (v : Vec Ideal S1024x1 .i32) :
    acc v (View.ld w (Rect.unit ![0, 0] ![1024, 32] inb_S8192x32_S1024x32_0_0))
      (View.ld w (Rect.unit ![1024, 0] ![1024, 32] inb_S8192x32_S1024x32_1024_0))
      (View.ld w (Rect.unit ![2048, 0] ![1024, 32] inb_S8192x32_S1024x32_2048_0))
      (View.ld w (Rect.unit ![3072, 0] ![1024, 32] inb_S8192x32_S1024x32_3072_0))
      (View.ld w (Rect.unit ![4096, 0] ![1024, 32] inb_S8192x32_S1024x32_4096_0))
      (View.ld w (Rect.unit ![5120, 0] ![1024, 32] inb_S8192x32_S1024x32_5120_0))
      (View.ld w (Rect.unit ![6144, 0] ![1024, 32] inb_S8192x32_S1024x32_6144_0))
      (View.ld w (Rect.unit ![7168, 0] ![1024, 32] inb_S8192x32_S1024x32_7168_0)) = tileRows w v := by
  funext y
  obtain ⟨r, c, rfl⟩ : ∃ (r : Fin 1024) (c : Fin 32), y = ix2 r c := ⟨y 0, y 1, ValueIdx.eq_ix2 y⟩
  rw [acc_apply (w := w) (c := c)
    (h0 := fun k => by rw [ld_book w 0 (by omega)]; exact congrArg (bookAt w c) (Nat.zero_add _))
    (h1 := fun k => ld_book w 1024 (by omega) _ k c) (h2 := fun k => ld_book w 2048 (by omega) _ k c)
    (h3 := fun k => ld_book w 3072 (by omega) _ k c) (h4 := fun k => ld_book w 4096 (by omega) _ k c)
    (h5 := fun k => ld_book w 5120 (by omega) _ k c) (h6 := fun k => ld_book w 6144 (by omega) _ k c)
    (h7 := fun k => ld_book w 7168 (by omega) _ k c)]
  rfl

/-! ## The counts, piece by piece -/

/-- A piece stored over what it found is the new counts there. -/
theorem piece (off : ℕ) (inb : ∀ a, (![0, off] : Fin 2 → ℕ) a + (![1, 1024] : Fin 2 → ℕ) a ≤ S1x8192.size a)
    (o : Vec Ideal S1x8192 .f32) (v : Vec Ideal S1024x1 .i32) (p : Vec Ideal S1x1024 .f32)
    (h : ∀ j : Fin 1024, p (ix2 0 j)
      = View.ld o (Rect.unit ![0, off] ![1, 1024] inb) (ix2 0 j) + ∑ r : Fin 1024, hot (v (ix2 r 0)) (off + j.val))
    (x : S1x1024.Idx) : p x = tileCount v o ((Rect.unit (s := S1x8192) ![0, off] ![1, 1024] inb).emb x) := by
  obtain ⟨a, j, rfl⟩ : ∃ (a : Fin 1) (j : Fin 1024), x = ix2 a j := ⟨x 0, x 1, ValueIdx.eq_ix2 x⟩
  obtain rfl : a = 0 := Subsingleton.elim _ _
  rw [h]
  show _ = o _ + tally v _
  have e : (((Rect.unit (s := S1x8192) ![0, off] ![1, 1024] inb).emb (ix2 0 j)) 1).val = off + j.val := by
    show off + 1 * j.val = _
    omega
  rw [e]; rfl

/-- The counts with the first `off` columns already updated. -/
def upTo (v : Vec Ideal S1024x1 .i32) (o : Vec Ideal S1x8192 .f32) (off : ℕ) : Vec Ideal S1x8192 .f32 :=
  fun y => if (y 1).val < off then tileCount v o y else o y

/-- Storing the next piece, over what the pieces before left there, updates the next 1024 columns. -/
theorem next {sp : Space} (V : View sig .tc sp S1x8192 .f32) (off : ℕ)
    (inb : ∀ a, (![0, off] : Fin 2 → ℕ) a + (![1, 1024] : Fin 2 → ℕ) a ≤ S1x8192.size a)
    (v : Vec Ideal S1024x1 .i32) (o : Vec Ideal S1x8192 .f32) (L : List (View.Piece (Elt Ideal) S1x8192 .f32))
    (hL : View.canon L = upTo v o off) (p : Vec Ideal S1x1024 .f32 → Vec Ideal S1x1024 .f32)
    (h : ∀ (q : Vec Ideal S1x1024 .f32) (j : Fin 1024), p q (ix2 0 j) = q (ix2 0 j) + ∑ r : Fin 1024, hot (v (ix2 r 0)) (off + j.val)) :
    View.canon ((⟨Rect.unit ![0, off] ![1, 1024] inb, p (V.readCov L (Rect.unit (s := S1x8192) ![0, off] ![1, 1024] inb).toLoadRect)⟩
      : View.Piece (Elt Ideal) S1x8192 .f32) :: L) = upTo v o (off + 1024) := by
  funext y
  by_cases hm : y ∈ (Rect.unit (s := S1x8192) ![0, off] ![1, 1024] inb).set
  · obtain ⟨x, rfl⟩ := (Rect.unit (s := S1x8192) ![0, off] ![1, 1024] inb).exists_idx_of_mem hm
    rw [show (Rect.unit (s := S1x8192) ![0, off] ![1, 1024] inb).idx x = (Rect.unit (s := S1x8192) ![0, off] ![1, 1024] inb).emb x from rfl,
      View.canon_cons_emb]
    obtain ⟨a, j, rfl⟩ : ∃ (a : Fin 1) (j : Fin 1024), x = ix2 a j := ⟨x 0, x 1, ValueIdx.eq_ix2 x⟩
    obtain rfl : a = 0 := Subsingleton.elim _ _
    have e : (((Rect.unit (s := S1x8192) ![0, off] ![1, 1024] inb).emb (ix2 0 j)) 1).val = off + j.val := by
      show off + 1 * j.val = _
      omega
    rw [h, View.readCov_eq_canon', hL]
    show upTo v o off _ + _ = upTo v o (off + 1024) _
    unfold upTo
    rw [if_neg (by
        show ¬ (((Rect.unit (s := S1x8192) ![0, off] ![1, 1024] inb).emb (ix2 0 j)) 1).val < off
        rw [e]; omega), if_pos (by rw [e]; have := j.isLt; omega)]
    unfold tileCount tally
    rw [e]; rfl
  · generalize p (V.readCov L (Rect.unit (s := S1x8192) ![0, off] ![1, 1024] inb).toLoadRect) = P
    have hc : View.canon ((⟨Rect.unit ![0, off] ![1, 1024] inb, P⟩ : View.Piece (Elt Ideal) S1x8192 .f32) :: L) y = View.canon L y :=
      View.canon_cons_of_not_mem (⟨Rect.unit ![0, off] ![1, 1024] inb, P⟩ : View.Piece (Elt Ideal) S1x8192 .f32) L hm
    refine hc.trans ?_
    rw [hL]
    unfold upTo
    by_cases h1 : (y 1).val < off
    · rw [if_pos h1, if_pos (by omega)]
    · rw [if_neg h1, if_neg]
      intro h2
      refine hm (Rect.mem_set_unit.mpr fun a => ?_)
      fin_cases a
      · exact ⟨Nat.zero_le _, (y 0).isLt⟩
      · exact ⟨by show off ≤ (y 1).val; omega, by show (y 1).val < off + 1024; exact h2⟩

/-- Before the first piece nothing is updated. -/
theorem upTo_zero (v : Vec Ideal S1024x1 .i32) (o : Vec Ideal S1x8192 .f32) : upTo v o 0 = o := by
  funext y; unfold upTo; rw [if_neg (Nat.not_lt_zero _)]

/-- After the last one everything is. -/
theorem upTo_all (v : Vec Ideal S1024x1 .i32) (o : Vec Ideal S1x8192 .f32) : upTo v o 8192 = tileCount v o := by
  funext y; unfold upTo; rw [if_pos (show (y 1).val < 8192 from (y 1).isLt)]

/-- The zero counts the first point stores. -/
theorem zeros : k0_pay4 (F := Ideal) = fun _ => (0 : EReal) := by
  funext y; unfold k0_pay4; pointwise

/-! ## Case A: the first point -/

/-- The output tile. -/
theorem out_A (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : cond0_0 i) (hc1 : ¬cond0_1 i)
    (x0 : Vec Ideal S1024x32 .f32) (x1 : Vec Ideal S8192x32 .f32) (x2 : Vec Ideal S1024x1 .i32) :
    out0_A_3 c i arg1 harg1 arg2 harg2 arg3 harg3 arg4 harg4 arg5 harg5 arg6 harg6 arg7 harg7 arg8 harg8 hc0 hc1 x0 x1 x2 = tileOut x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A
  dsimp only
  sl_unfold_words
  simp only [View.readAt_eq_ld, harg1.read_unread, harg2.read_unread, harg3.read_unread, ld_one, View.ld_unit_zero (S := S1024x1) hz, View.ld_unit_zero (S := S1024x32) hz]
  rw [View.canon_unit_zero hz]
  simp only [words, input]
  funext y
  unfold k0_pay28 tileOut
  rw [← acc_eq x1 x2]
  rfl

/-- The counts. -/
theorem count_A (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : cond0_0 i) (hc1 : ¬cond0_1 i)
    (x0 : Vec Ideal S1024x32 .f32) (x1 : Vec Ideal S8192x32 .f32) (x2 : Vec Ideal S1024x1 .i32) :
    sout0_A_0 c i arg1 harg1 arg2 harg2 arg3 harg3 arg4 harg4 arg5 harg5 arg6 harg6 arg7 harg7 arg8 harg8 hc0 hc1 x0 x1 x2 = tileCount x2 (fun _ => (0 : EReal)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  sl_unfold_words
  simp only [View.readAt_eq_ld, harg1.read_unread, harg2.read_unread, harg3.read_unread, ld_one, View.ld_unit_zero (S := S1024x1) hz, View.ld_unit_zero (S := S1024x32) hz]
  simp only [words]
  have b0 : View.canon [(⟨Rect.unit ![0, 0] ![1, 8192] inb_S1x8192_S1x8192_0_0, k0_pay4 (F := Ideal)⟩ : View.Piece (Elt Ideal) S1x8192 .f32)]
      = upTo x2 (fun _ => (0 : EReal)) 0 := by
    rw [upTo_zero, ← zeros]; exact View.canon_unit_zero (S := S1x8192) hz _ _
  have b1 := next arg7.view 0 inb_S1x8192_S1x1024_0_0 x2 _ _ b0 (fun q => k0_pay8 (F := Ideal) x2 q)
    (fun q j => by rw [count0]; simp only [Nat.zero_add])
  have b2 := next arg7.view 1024 inb_S1x8192_S1x1024_0_1024 x2 _ _ b1 (fun q => k0_pay11 (F := Ideal) (k0_pay9 (F := Ideal) x2) q)
    (fun q j => count1 x2 j q)
  have b3 := next arg7.view 2048 inb_S1x8192_S1x1024_0_2048 x2 _ _ b2 (fun q => k0_pay13 (F := Ideal) x2 q)
    (fun q j => count2 x2 j q)
  have b4 := next arg7.view 3072 inb_S1x8192_S1x1024_0_3072 x2 _ _ b3 (fun q => k0_pay17 (F := Ideal) (k0_pay16 (F := Ideal) x2 q))
    (fun q j => count3 x2 j q)
  have b5 := next arg7.view 4096 inb_S1x8192_S1x1024_0_4096 x2 _ _ b4 (fun q => k0_pay19 (F := Ideal) x2 q)
    (fun q j => count4 x2 j q)
  have b6 := next arg7.view 5120 inb_S1x8192_S1x1024_0_5120 x2 _ _ b5 (fun q => k0_pay22 (F := Ideal) x2 q)
    (fun q j => count5 x2 j q)
  have b7 := next arg7.view 6144 inb_S1x8192_S1x1024_0_6144 x2 _ _ b6 (fun q => k0_pay24 (F := Ideal) x2 (iota .tc S1024x1024 32 [1] iota_S1024x1024_d1_w32) q)
    (fun q j => count6 x2 j q)
  have b8 := next arg7.view 7168 inb_S1x8192_S1x1024_0_7168 x2 _ _ b7 (fun q => k0_pay27 (F := Ideal) x2 q)
    (fun q j => count7 x2 j q)
  refine Eq.trans ?_ (b8.trans (upTo_all _ _))
  rfl

/-- The running loss. -/
theorem loss_A (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : cond0_0 i) (hc1 : ¬cond0_1 i)
    (x0 : Vec Ideal S1024x32 .f32) (x1 : Vec Ideal S8192x32 .f32) (x2 : Vec Ideal S1024x1 .i32) :
    sout0_A_1 c i arg1 harg1 arg2 harg2 arg3 harg3 arg4 harg4 arg5 harg5 arg6 harg6 arg7 harg7 arg8 harg8 hc0 hc1 x0 x1 x2 = fun _ => tileLoss x0 x1 x2 0 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  sl_unfold_words
  simp only [View.readAt_eq_ld, harg1.read_unread, harg2.read_unread, harg3.read_unread, ld_one, View.ld_unit_zero (S := S1024x1) hz, View.ld_unit_zero (S := S1024x32) hz]
  rw [View.canon_cons_unit_zero (S := S1x1) hz]
  simp only [words, input]
  funext y
  rw [lossStep]
  unfold tileLoss k0_pay29
  rw [← acc_eq x1 x2]
  exact (congrArg (fun q : EReal => q + _) Ideal.ofBits_zero_f32).trans rfl

/-! ## Case B: a point between -/

/-- The output tile. -/
theorem out_B (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : ¬cond0_1 i)
    (x0 : Vec Ideal S1024x32 .f32) (x1 : Vec Ideal S8192x32 .f32) (x2 : Vec Ideal S1024x1 .i32) (xs0 : Vec Ideal S1x8192 .f32) (xs1 : Vec Ideal S1x1 .f32) :
    out0_B_3 c i arg1 harg1 arg2 harg2 arg3 harg3 arg4 harg4 arg5 harg5 arg6 harg6 arg7 harg7 arg8 harg8 hc0 hc1 x0 x1 x2 xs0 xs1 = tileOut x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold kernelRun0_B
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz]
  rw [View.canon_unit_zero hz]
  simp only [words, input]
  funext y
  unfold k0_pay28 tileOut
  rw [← acc_eq x1 x2]
  rfl

/-- The counts. -/
theorem count_B (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : ¬cond0_1 i)
    (x0 : Vec Ideal S1024x32 .f32) (x1 : Vec Ideal S8192x32 .f32) (x2 : Vec Ideal S1024x1 .i32) (xs0 : Vec Ideal S1x8192 .f32) (xs1 : Vec Ideal S1x1 .f32) :
    sout0_B_0 c i arg1 harg1 arg2 harg2 arg3 harg3 arg4 harg4 arg5 harg5 arg6 harg6 arg7 harg7 arg8 harg8 hc0 hc1 x0 x1 x2 xs0 xs1 = tileCount x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  funext y
  refine View.canon_apply_of_pieces (tileCount x2 xs0) _ ?_ y (scover0_B_0 c i arg1 harg1 arg2 harg2 arg3 harg3 arg4 harg4 arg5 harg5 arg6 harg6 arg7 harg7 arg8 harg8 hc0 hc1 x0 x1 x2 xs0 xs1 y)
  unfold kernelRun0_B
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz, words]
  refine List.forall_mem_cons.mpr ⟨piece 7168 _ xs0 x2 _ fun j => count7 x2 j _, ?_⟩
  refine List.forall_mem_cons.mpr ⟨piece 6144 _ xs0 x2 _ fun j => count6 x2 j _, ?_⟩
  refine List.forall_mem_cons.mpr ⟨piece 5120 _ xs0 x2 _ fun j => count5 x2 j _, ?_⟩
  refine List.forall_mem_cons.mpr ⟨piece 4096 _ xs0 x2 _ fun j => count4 x2 j _, ?_⟩
  refine List.forall_mem_cons.mpr ⟨piece 3072 _ xs0 x2 _ fun j => count3 x2 j _, ?_⟩
  refine List.forall_mem_cons.mpr ⟨piece 2048 _ xs0 x2 _ fun j => count2 x2 j _, ?_⟩
  refine List.forall_mem_cons.mpr ⟨piece 1024 _ xs0 x2 _ fun j => count1 x2 j _, ?_⟩
  refine List.forall_mem_cons.mpr ⟨piece 0 inb_S1x8192_S1x1024_0_0 xs0 x2 _ fun j => (count0 x2 j _).trans (by simp only [Nat.zero_add]), ?_⟩
  exact fun p hp => nomatch hp

/-- The running loss. -/
theorem loss_B (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : ¬cond0_1 i)
    (x0 : Vec Ideal S1024x32 .f32) (x1 : Vec Ideal S8192x32 .f32) (x2 : Vec Ideal S1024x1 .i32) (xs0 : Vec Ideal S1x8192 .f32) (xs1 : Vec Ideal S1x1 .f32) :
    sout0_B_1 c i arg1 harg1 arg2 harg2 arg3 harg3 arg4 harg4 arg5 harg5 arg6 harg6 arg7 harg7 arg8 harg8 hc0 hc1 x0 x1 x2 xs0 xs1 = fun _ => tileLoss x0 x1 x2 (xs1 (ix2 0 0)) := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold kernelRun0_B
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz]
  rw [View.canon_unit_zero (S := S1x1) hz]
  simp only [words, input]
  funext y
  rw [lossStep]
  unfold tileLoss k0_pay29
  rw [← acc_eq x1 x2]
  exact (congrArg (fun q : EReal => q + _) (ld_one xs1 _ _)).trans rfl

/-! ## Case C: the last point -/

/-- The output tile. -/
theorem out_C (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : cond0_1 i)
    (x0 : Vec Ideal S1024x32 .f32) (x1 : Vec Ideal S8192x32 .f32) (x2 : Vec Ideal S1024x1 .i32) (xs0 : Vec Ideal S1x8192 .f32) (xs1 : Vec Ideal S1x1 .f32) :
    out0_C_3 c i arg1 harg1 arg2 harg2 arg3 harg3 arg4 harg4 arg5 harg5 arg6 harg6 arg7 harg7 arg8 harg8 hc0 hc1 x0 x1 x2 xs0 xs1 = tileOut x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz]
  rw [View.canon_unit_zero hz]
  simp only [words, input]
  funext y
  unfold k0_pay28 tileOut
  rw [← acc_eq x1 x2]
  rfl

/-- The counts. -/
theorem count_C (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : cond0_1 i)
    (x0 : Vec Ideal S1024x32 .f32) (x1 : Vec Ideal S8192x32 .f32) (x2 : Vec Ideal S1024x1 .i32) (xs0 : Vec Ideal S1x8192 .f32) (xs1 : Vec Ideal S1x1 .f32) :
    sout0_C_0 c i arg1 harg1 arg2 harg2 arg3 harg3 arg4 harg4 arg5 harg5 arg6 harg6 arg7 harg7 arg8 harg8 hc0 hc1 x0 x1 x2 xs0 xs1 = tileCount x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  funext y
  refine View.canon_apply_of_pieces (tileCount x2 xs0) _ ?_ y (scover0_C_0 c i arg1 harg1 arg2 harg2 arg3 harg3 arg4 harg4 arg5 harg5 arg6 harg6 arg7 harg7 arg8 harg8 hc0 hc1 x0 x1 x2 xs0 xs1 y)
  unfold kernelRun0_C
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz, words]
  refine List.forall_mem_cons.mpr ⟨piece 7168 _ xs0 x2 _ fun j => count7 x2 j _, ?_⟩
  refine List.forall_mem_cons.mpr ⟨piece 6144 _ xs0 x2 _ fun j => count6 x2 j _, ?_⟩
  refine List.forall_mem_cons.mpr ⟨piece 5120 _ xs0 x2 _ fun j => count5 x2 j _, ?_⟩
  refine List.forall_mem_cons.mpr ⟨piece 4096 _ xs0 x2 _ fun j => count4 x2 j _, ?_⟩
  refine List.forall_mem_cons.mpr ⟨piece 3072 _ xs0 x2 _ fun j => count3 x2 j _, ?_⟩
  refine List.forall_mem_cons.mpr ⟨piece 2048 _ xs0 x2 _ fun j => count2 x2 j _, ?_⟩
  refine List.forall_mem_cons.mpr ⟨piece 1024 _ xs0 x2 _ fun j => count1 x2 j _, ?_⟩
  refine List.forall_mem_cons.mpr ⟨piece 0 inb_S1x8192_S1x1024_0_0 xs0 x2 _ fun j => (count0 x2 j _).trans (by simp only [Nat.zero_add]), ?_⟩
  exact fun p hp => nomatch hp

/-- The running loss. -/
theorem loss_C (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : cond0_1 i)
    (x0 : Vec Ideal S1024x32 .f32) (x1 : Vec Ideal S8192x32 .f32) (x2 : Vec Ideal S1024x1 .i32) (xs0 : Vec Ideal S1x8192 .f32) (xs1 : Vec Ideal S1x1 .f32) :
    sout0_C_1 c i arg1 harg1 arg2 harg2 arg3 harg3 arg4 harg4 arg5 harg5 arg6 harg6 arg7 harg7 arg8 harg8 hc0 hc1 x0 x1 x2 xs0 xs1 = fun _ => tileLoss x0 x1 x2 (xs1 (ix2 0 0)) := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz]
  rw [View.canon_unit_zero (S := S1x1) hz]
  simp only [words, input]
  funext y
  rw [lossStep]
  unfold tileLoss k0_pay29
  rw [← acc_eq x1 x2]
  exact (congrArg (fun q : EReal => q + _) (ld_one xs1 _ _)).trans rfl

/-- The loss stored at the last point, over the running loss it leaves. -/
theorem final_loss (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : cond0_1 i)
    (x0 : Vec Ideal S1024x32 .f32) (x1 : Vec Ideal S8192x32 .f32) (x2 : Vec Ideal S1024x1 .i32) (xs0 : Vec Ideal S1x8192 .f32) (xs1 : Vec Ideal S1x1 .f32) :
    out0_C_4 c i arg1 harg1 arg2 harg2 arg3 harg3 arg4 harg4 arg5 harg5 arg6 harg6 arg7 harg7 arg8 harg8 hc0 hc1 x0 x1 x2 xs0 xs1 = k0_pay2 (F := Ideal) (tileLoss x0 x1 x2 (xs1 (ix2 0 0))) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  simp only [View.readAt_eq_ld, harg1.read_unread, harg2.read_unread, harg3.read_unread, harg7.read_unread, harg8.read_unread, ld_one, View.ld_unit_zero (S := S1024x1) hz, View.ld_unit_zero (S := S1024x32) hz]
  rw [View.canon_unit_zero (S := S1x1) hz]
  simp only [words, input]
  rw [lossStep]
  unfold tileLoss k0_pay29
  rw [← acc_eq x1 x2]
  exact (congrArg (fun q : EReal => k0_pay2 (F := Ideal) (q + _)) (ld_one xs1 _ _)).trans rfl

/-- The perplexity stored at the last point, over the counts it leaves. -/
theorem final_perp (c : Dev nD) (i : grid0.Coords) (arg1 : Memref sig .tc .vmem S1024x32 .f32) (harg1 : arg1.IsWhole) (arg2 : Memref sig .tc .vmem S8192x32 .f32) (harg2 : arg2.IsWhole) (arg3 : Memref sig .tc .vmem S1024x1 .i32) (harg3 : arg3.IsWhole) (arg4 : Memref sig .tc .vmem S1024x32 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x8192 .f32) (harg7 : arg7.IsWhole) (arg8 : Memref sig .tc .smem S1x1 .f32) (harg8 : arg8.IsWhole) (hc0 : ¬cond0_0 i) (hc1 : cond0_1 i)
    (x0 : Vec Ideal S1024x32 .f32) (x1 : Vec Ideal S8192x32 .f32) (x2 : Vec Ideal S1024x1 .i32) (xs0 : Vec Ideal S1x8192 .f32) (xs1 : Vec Ideal S1x1 .f32) :
    out0_C_5 c i arg1 harg1 arg2 harg2 arg3 harg3 arg4 harg4 arg5 harg5 arg6 harg6 arg7 harg7 arg8 harg8 hc0 hc1 x0 x1 x2 xs0 xs1 = k0_pay3 (F := Ideal) (tileCount x2 xs0) := by
  rw [← count_C c i arg1 harg1 arg2 harg2 arg3 harg3 arg4 harg4 arg5 harg5 arg6 harg6 arg7 harg7 arg8 harg8 hc0 hc1 x0 x1 x2 xs0 xs1]
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1) hz, View.readCov_eq_canon']
  exact congrArg _ (View.ld_unit_zero (S := S1x8192) hz _ _)

end Cert.KernelIdeal.Cases
-- ==== Proof.Ker.Arrays.lean ====
/-
  THE KERNEL'S THREE ARRAYS AFTER ITS EIGHT POINTS, AT `Ideal`, over the arrays it starts from: the flattened input `Zk`,
  the code book `Wk` and the column of code words `Ik`. The point's blocks are the arrays' stretches of 1024 rows; the
  counts and the running loss after each point are sums over the points so far (by induction on the point); the output
  array is put together from the eight blocks, and the two scalars are what the last point stores.
-/
module

public import proofs.«01_k».proof.Proof.Ker.Cases

@[expose] public section

set_option maxRecDepth 16384

noncomputable section

namespace Cert.KernelIdeal.Arrays

open Cert.KernelIdeal Cert.KernelIdeal.Gen Cert.KernelIdeal.Tile Cert.KernelIdeal.Cases
open Idealize.ShloMosaic Idealize.ShloMosaic.TcCoe Idealize.ShloMosaic.Pipeline
open scoped BigOperators

/-! ## The plain values -/

/-- Rows `1024 s …` of the flattened input. -/
def zBlk (Z : Vec Ideal S8192x32 .f32) (s : ℕ) : Vec Ideal S1024x32 .f32 :=
  fun y => if h : 1024 * s + (y 0).val < 8192 then Z (ix2 ⟨1024 * s + (y 0).val, h⟩ (y 1)) else 0

/-- Rows `1024 s …` of the column of words. -/
def iBlk (I : Vec Ideal S8192x1 .i32) (s : ℕ) : Vec Ideal S1024x1 .i32 :=
  fun y => if h : 1024 * s + (y 0).val < 8192 then I (ix2 ⟨1024 * s + (y 0).val, h⟩ 0) else 0#32

/-- What point `s` adds to the running loss. -/
def gain (Z W : Vec Ideal S8192x32 .f32) (I : Vec Ideal S8192x1 .i32) (s : ℕ) : EReal :=
  ∑ r : Fin 1024, ∑ c : Fin 32, (tileRows W (iBlk I s) (ix2 r c) - zBlk Z s (ix2 r c)) * (tileRows W (iBlk I s) (ix2 r c) - zBlk Z s (ix2 r c))

/-- The running loss after the first `n` points. -/
def lossTo (Z W : Vec Ideal S8192x32 .f32) (I : Vec Ideal S8192x1 .i32) (n : ℕ) : EReal := ∑ s ∈ Finset.range n, gain Z W I s

/-- The counts after the first `n` points. -/
def countTo (I : Vec Ideal S8192x1 .i32) (n : ℕ) : Vec Ideal S1x8192 .f32 :=
  fun y => ∑ s ∈ Finset.range n, tally (iBlk I s) (y 1).val

/-- The whole output: each input row plus the difference of its named row and itself. -/
def allOut (Z W : Vec Ideal S8192x32 .f32) (I : Vec Ideal S8192x1 .i32) : Vec Ideal S8192x32 .f32 :=
  fun y => Z y + ((∑ n : Fin 8192, hot (I (ix2 (y 0) 0)) n.val * W (ix2 n (y 1))) - Z y)

/-! ## The arrays the region starts from, and a point's blocks of them -/

variable (m : (ℓ : Loc nD τ sig) → Buf (Elt Ideal) ℓ)

def Zk (c : Dev nD) : Vec Ideal S8192x32 .f32 := V m c main_call0_v1
def Wk (c : Dev nD) : Vec Ideal S8192x32 .f32 := V m c main_arg1
def Ik (c : Dev nD) : Vec Ideal S8192x1 .i32 := V m c main_call0_v23

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem lt_eight (t : Fin cfg0.N) : t.val < 8 := lt_of_lt_of_eq t.isLt N_0

theorem read0 (A : Vec Ideal S8192x32 .f32) (t : Fin cfg0.N) : ((cfg0.win 0).blk t).view.read (Elt Ideal) A = zBlk A t.val := by
  funext y
  have h0 : (y 0).val < 1024 := (y 0).isLt
  have ht := lt_eight t
  obtain ⟨e0, e1⟩ := idx0 t
  unfold zBlk
  rw [View.read_apply, dif_pos (by omega)]
  show A _ = A _
  refine congrArg A (funext fun a => Fin.ext ?_)
  match a with
  | ⟨0, _⟩ => show win0_0.index t (0 : Fin 2) * 1024 + 1 * (y 0).val = 1024 * t.val + (y 0).val; rw [e0]; omega
  | ⟨1, _⟩ => show win0_0.index t (1 : Fin 2) * 32 + 1 * (y 1).val = (y 1).val; rw [e1]; omega

theorem read1 (A : Vec Ideal S8192x32 .f32) (t : Fin cfg0.N) : ((cfg0.win 1).blk t).view.read (Elt Ideal) A = A := by
  funext y
  obtain ⟨e0, e1⟩ := idx1 t
  rw [View.read_apply]
  show A _ = A _
  refine congrArg A (funext fun a => Fin.ext ?_)
  match a with
  | ⟨0, _⟩ => show win0_1.index t (0 : Fin 2) * 8192 + 1 * (y 0).val = (y 0).val; rw [e0]; omega
  | ⟨1, _⟩ => show win0_1.index t (1 : Fin 2) * 32 + 1 * (y 1).val = (y 1).val; rw [e1]; omega

theorem read2 (A : Vec Ideal S8192x1 .i32) (t : Fin cfg0.N) : ((cfg0.win 2).blk t).view.read (Elt Ideal) A = iBlk A t.val := by
  funext y
  have h0 : (y 0).val < 1024 := (y 0).isLt
  have h1 : (y 1).val < 1 := (y 1).isLt
  have ht := lt_eight t
  obtain ⟨e0, e1⟩ := idx2 t
  unfold iBlk
  rw [View.read_apply, dif_pos (by omega)]
  show A _ = A _
  refine congrArg A (funext fun a => Fin.ext ?_)
  match a with
  | ⟨0, _⟩ => show win0_2.index t (0 : Fin 2) * 1024 + 1 * (y 0).val = 1024 * t.val + (y 0).val; rw [e0]; omega
  | ⟨1, _⟩ => show win0_2.index t (1 : Fin 2) * 1 + 1 * (y 1).val = 0; rw [e1]; omega

theorem blk0 (c : Dev nD) (t : Fin cfg0.N) : iblk m c 0 t = zBlk (Zk m c) t.val := read0 (Zk m c) t
theorem blk1 (c : Dev nD) (t : Fin cfg0.N) : iblk m c 1 t = Wk m c := read1 (Wk m c) t
theorem blk2 (c : Dev nD) (t : Fin cfg0.N) : iblk m c 2 t = iBlk (Ik m c) t.val := read2 (Ik m c) t

/-! ## After each point -/

theorem step_count (I : Vec Ideal S8192x1 .i32) (n : ℕ) : tileCount (iBlk I n) (countTo I n) = countTo I (n + 1) := by
  funext y; unfold tileCount countTo; rw [Finset.sum_range_succ]

theorem step_loss (Z W : Vec Ideal S8192x32 .f32) (I : Vec Ideal S8192x1 .i32) (n : ℕ) :
    tileLoss (zBlk Z n) W (iBlk I n) (lossTo Z W I n) = lossTo Z W I (n + 1) := by
  unfold tileLoss lossTo; rw [Finset.sum_range_succ]; rfl

theorem count_none (I : Vec Ideal S8192x1 .i32) : (fun _ => (0 : EReal)) = countTo I 0 := by
  funext y; unfold countTo; rw [Finset.sum_range_zero]

theorem loss_none (Z W : Vec Ideal S8192x32 .f32) (I : Vec Ideal S8192x1 .i32) : (0 : EReal) = lossTo Z W I 0 := by
  unfold lossTo; rw [Finset.sum_range_zero]

/-- The counts and the running loss that point `n` leaves. -/
theorem scratch (c : Dev nD) : ∀ (n : ℕ) (h : n < cfg0.N),
    (outsAt0 m c n h).2.2.2.1 = countTo (Ik m c) (n + 1)
      ∧ (outsAt0 m c n h).2.2.2.2 = fun _ => lossTo (Zk m c) (Wk m c) (Ik m c) (n + 1)
  | 0, h => by
    have e := outsAt0_A m c ⟨0, h⟩ (Nat.zero_mod 8) (by show ¬0 % 8 = 7; omega)
    constructor
    · refine (congrArg (fun q => q.2.2.2.1) e).trans ?_
      dsimp only
      rw [count_A, blk2, count_none (Ik m c), step_count]
    · refine (congrArg (fun q => q.2.2.2.2) e).trans ?_
      dsimp only
      rw [loss_A, blk0, blk1, blk2, loss_none (Zk m c) (Wk m c) (Ik m c), step_loss]
  | n + 1, h => by
    have hN : n + 1 < 8 := lt_of_lt_of_eq h N_0
    obtain ⟨i0, i1⟩ := scratch c n (Nat.lt_of_succ_lt h)
    by_cases h1 : (n + 1) % 8 = 7
    · have e := outsAt0_C m c ⟨n + 1, h⟩ (by show ¬(n + 1) % 8 = 0; omega) h1
      constructor
      · refine (congrArg (fun q => q.2.2.2.1) e).trans ?_
        dsimp only
        rw [count_C, blk2]
        refine Eq.trans ?_ (step_count _ _)
        exact congrArg _ i0
      · refine (congrArg (fun q => q.2.2.2.2) e).trans ?_
        dsimp only
        rw [loss_C, blk0, blk1, blk2]
        funext y
        refine Eq.trans ?_ (step_loss _ _ _ _)
        exact congrArg _ (congrFun i1 _)
    · have e := outsAt0_B m c ⟨n + 1, h⟩ (by show ¬(n + 1) % 8 = 0; omega) h1
      constructor
      · refine (congrArg (fun q => q.2.2.2.1) e).trans ?_
        dsimp only
        rw [count_B, blk2]
        refine Eq.trans ?_ (step_count _ _)
        exact congrArg _ i0
      · refine (congrArg (fun q => q.2.2.2.2) e).trans ?_
        dsimp only
        rw [loss_B, blk0, blk1, blk2]
        funext y
        refine Eq.trans ?_ (step_loss _ _ _ _)
        exact congrArg _ (congrFun i1 _)

/-- The output tile point `t` leaves. -/
theorem tile (c : Dev nD) (t : Fin cfg0.N) :
    (outsAt0 m c t.val t.isLt).1 = tileOut (zBlk (Zk m c) t.val) (Wk m c) (iBlk (Ik m c) t.val) := by
  have ht := lt_eight t
  by_cases h0 : t.val % 8 = 0
  · rw [outsAt0_A m c t h0 (by omega)]
    dsimp only
    rw [out_A, blk0, blk1, blk2]
  · by_cases h1 : t.val % 8 = 7
    · rw [outsAt0_C m c t h0 h1]
      dsimp only
      rw [out_C, blk0, blk1, blk2]
    · rw [outsAt0_B m c t h0 h1]
      dsimp only
      rw [out_B, blk0, blk1, blk2]

/-- The loss the last point stores. -/
theorem last_loss (c : Dev nD) (t : Fin cfg0.N) (ht : t.val = 7) :
    (outsAt0 m c t.val t.isLt).2.1 = k0_pay2 (F := Ideal) (lossTo (Zk m c) (Wk m c) (Ik m c) 8) := by
  rw [outsAt0_C m c t (by omega) (by omega)]
  dsimp only
  rw [final_loss, blk0, blk1, blk2]
  obtain ⟨n, hn⟩ := t
  obtain rfl : n = 7 := ht
  refine congrArg (k0_pay2 (F := Ideal)) (Eq.trans ?_ (step_loss _ _ _ _))
  exact congrArg _ (congrFun (scratch m c 6 _).2 _)

/-- The perplexity the last point stores. -/
theorem last_perp (c : Dev nD) (t : Fin cfg0.N) (ht : t.val = 7) :
    (outsAt0 m c t.val t.isLt).2.2.1 = k0_pay3 (F := Ideal) (countTo (Ik m c) 8) := by
  rw [outsAt0_C m c t (by omega) (by omega)]
  dsimp only
  rw [final_perp, blk2]
  obtain ⟨n, hn⟩ := t
  obtain rfl : n = 7 := ht
  refine congrArg (k0_pay3 (F := Ideal)) (Eq.trans ?_ (step_count _ _))
  exact congrArg _ (scratch m c 6 _).1

/-! ## The arrays -/

/-- A tile of the whole output is the tile's own value. -/
theorem tile_of_all (Z W : Vec Ideal S8192x32 .f32) (I : Vec Ideal S8192x1 .i32) (s : ℕ) (hs : s < 8) (y : S1024x32.Idx) (i : S8192x32.Idx)
    (h0 : (i 0).val = 1024 * s + (y 0).val) (h1 : (i 1).val = (y 1).val) : tileOut (zBlk Z s) W (iBlk I s) y = allOut Z W I i := by
  obtain ⟨r, q, rfl⟩ : ∃ (r : Fin 1024) (q : Fin 32), y = ix2 r q := ⟨y 0, y 1, ValueIdx.eq_ix2 y⟩
  obtain ⟨a, b, rfl⟩ : ∃ (a : Fin 8192) (b : Fin 32), i = ix2 a b := ⟨i 0, i 1, ValueIdx.eq_ix2 i⟩
  have e0 : a.val = 1024 * s + r.val := h0
  obtain rfl : b = q := Fin.ext h1
  have hr := r.isLt
  have ea : a = ⟨1024 * s + r.val, by omega⟩ := Fin.ext e0
  have ez : zBlk Z s (ix2 r b) = Z (ix2 a b) := by
    rw [ea]; exact dif_pos (show 1024 * s + r.val < 8192 by omega)
  have ei : iBlk I s (ix2 r 0) = I (ix2 a 0) := by
    rw [ea]; exact dif_pos (show 1024 * s + r.val < 8192 by omega)
  unfold tileOut allOut tileRows
  rw [ez]
  show Z (ix2 a b) + ((∑ n : Fin 8192, hot (iBlk I s (ix2 r 0)) n.val * W (ix2 n b)) - Z (ix2 a b)) = _
  rw [ei]; rfl

theorem array3 (c : Dev nD) : (dats m 0 c).arrAt 3 cfg0.N = allOut (Zk m c) (Wk m c) (Ik m c) := by
  refine (dats m 0 c).arrAt_eq_of_cover 3 _ (fun t _ => ?_) (fun i => ?_)
  · show (cfg0.win 3).cut (grid0.coords t) ((dats m 0 c).after 3 t) = _
    rw [after0_3, tile]
    obtain ⟨e0, e1⟩ := idx3 t
    funext y
    refine tile_of_all _ _ _ t.val (lt_eight t) _ _ ?_ ?_
    · show win0_3.index t (0 : Fin 2) * 1024 + 1 * (y 0).val = 1024 * t.val + (y 0).val; rw [e0]; omega
    · show win0_3.index t (1 : Fin 2) * 32 + 1 * (y 1).val = (y 1).val; rw [e1]; omega
  · have h0 : (i 0).val < 8192 := (i 0).isLt
    have h1 : (i 1).val < 32 := (i 1).isLt
    have hq : (i 0).val / 1024 < cfg0.N := lt_of_lt_of_eq (by omega : (i 0).val / 1024 < 8) N_0.symm
    refine ⟨⟨(i 0).val / 1024, hq⟩, (by decide +kernel : ∀ t : Fin grid0.N, win0_3.flush t = true) _, ?_⟩
    obtain ⟨e0, e1⟩ := idx3 ⟨(i 0).val / 1024, hq⟩
    show i ∈ ((View.whole main_call0_v24_0).slice (win0_3.rect ⟨(i 0).val / 1024, hq⟩)).set
    rw [View.set_slice_whole, Rect.mem_set_unit]
    intro a
    match a with
    | ⟨0, _⟩ =>
      show win0_3.index ⟨(i 0).val / 1024, hq⟩ (0 : Fin 2) * 1024 ≤ (i 0).val ∧ (i 0).val < win0_3.index ⟨(i 0).val / 1024, hq⟩ (0 : Fin 2) * 1024 + 1024
      rw [e0]; show (i 0).val / 1024 * 1024 ≤ (i 0).val ∧ (i 0).val < (i 0).val / 1024 * 1024 + 1024; omega
    | ⟨1, _⟩ =>
      show win0_3.index ⟨(i 0).val / 1024, hq⟩ (1 : Fin 2) * 32 ≤ (i 1).val ∧ (i 1).val < win0_3.index ⟨(i 0).val / 1024, hq⟩ (1 : Fin 2) * 32 + 32
      rw [e1]; omega

theorem one_elt (y z : S1x1.Idx) : y = z := funext fun a => Fin.ext (by
  have h : ∀ x : S1x1.Idx, (x a).val = 0 := fun x => by
    have := (x a).isLt
    match a, this with
    | ⟨0, _⟩, h => exact Nat.lt_one_iff.mp h
    | ⟨1, _⟩, h => exact Nat.lt_one_iff.mp h
  rw [h, h])

theorem array4 (c : Dev nD) : (dats m 0 c).arrAt 4 cfg0.N = k0_pay2 (F := Ideal) (lossTo (Zk m c) (Wk m c) (Ik m c) 8) := by
  refine (dats m 0 c).arrAt_eq_of_cover 4 _ (fun t hf => ?_) (fun i => ?_)
  · have h7 : t.val % 8 = 7 := (flush0_4 t).mp hf
    have ht := lt_eight t
    show (cfg0.win 4).cut (grid0.coords t) ((dats m 0 c).after 4 t) = _
    rw [after0_4, last_loss m c t (by omega)]
    funext y
    exact congrArg (k0_pay2 (F := Ideal) _) (one_elt _ (((cfg0.win 4).blk t).view.emb y))
  · have h7 : 7 < cfg0.N := lt_of_lt_of_eq (by decide) N_0.symm
    refine ⟨⟨7, h7⟩, (flush0_4 _).mpr (by show 7 % 8 = 7; omega), ?_⟩
    have e : (((cfg0.win 4).blk ⟨7, h7⟩).view.emb (ix2 0 0)) = i := one_elt _ _
    rw [← e]; exact Finset.mem_map_of_mem _ (Finset.mem_univ _)

theorem array5 (c : Dev nD) : (dats m 0 c).arrAt 5 cfg0.N = k0_pay3 (F := Ideal) (countTo (Ik m c) 8) := by
  refine (dats m 0 c).arrAt_eq_of_cover 5 _ (fun t hf => ?_) (fun i => ?_)
  · have h7 : t.val % 8 = 7 := (flush0_5 t).mp hf
    have ht := lt_eight t
    show (cfg0.win 5).cut (grid0.coords t) ((dats m 0 c).after 5 t) = _
    rw [after0_5, last_perp m c t (by omega)]
    funext y
    exact congrArg (k0_pay3 (F := Ideal) _) (one_elt _ (((cfg0.win 5).blk t).view.emb y))
  · have h7 : 7 < cfg0.N := lt_of_lt_of_eq (by decide) N_0.symm
    refine ⟨⟨7, h7⟩, (flush0_5 _).mpr (by show 7 % 8 = 7; omega), ?_⟩
    have e : (((cfg0.win 5).blk ⟨7, h7⟩).view.emb (ix2 0 0)) = i := one_elt _ _
    rw [← e]; exact Finset.mem_map_of_mem _ (Finset.mem_univ _)

end Cert.KernelIdeal.Arrays
-- ==== Proof.Ker.Host.lean ====
/-
  THE HOST OPERATIONS AROUND THE KERNEL: what the region's arrays hold when it starts — the flattened input, the code
  words (the same operations as the reference's, so the same term), the one-hot matrix the host builds — and the five results
  after it.
-/
module

public import proofs.«01_k».proof.Proof.Ker.Arrays
public import proofs.«01_k».proof.Proof.Ref.Run

@[expose] public section

set_option maxRecDepth 16384

noncomputable section

namespace Cert.KernelIdeal.Host

open Cert.KernelIdeal Cert.KernelIdeal.Gen Cert.KernelIdeal.Arrays
open Idealize.ShloMosaic Idealize.ShloMosaic.TcCoe Idealize.SL.Sem

variable [Cert.ReferenceIdeal.Facts]

/-- The one-hot matrix as the host builds it: row words compared with the row numbers of the transpose, and turned. -/
def enc (i : IVec S8192 32) : FVec Ideal S8192x8192 .f32 :=
  transpose S8192x8192 [1, 0]
    (uitofp .f32 (cmpi .eq (iotaInDim S8192x8192 32 0)
      (broadcastInDim S8192x8192 ![0, 1] Facts₀.bcast_S1x8192_S8192x8192_0_1 (broadcastInDim S1x8192 ![1] Facts₀.bcast_S8192_S1x8192_1 i))))
    Facts₀.transposes_S8192x8192_S8192x8192_1_0

/-- The words as a column. -/
def column (i : IVec S8192 32) : IVec S8192x1 32 := broadcastInDim S8192x1 ![0] Facts₀.bcast_S8192_S8192x1_0 i

variable (Vl : Valuation τ sig (Elt Ideal))

theorem rows_v1 : StableHlo.after hostOps0 Vl (Proc.devRef .tc main_call0_v1)
    = ReferenceIdeal.Line.rows (F := Ideal) (Vl (Proc.devRef .tc main_arg0)) := by
  after_results; rfl

theorem codes_v16 : StableHlo.after hostOps0 Vl (Proc.devRef .tc main_call0_v16)
    = ReferenceIdeal.Line.codes (F := Ideal) (Vl (Proc.devRef .tc main_arg0)) (Vl (Proc.devRef .tc main_arg1)) := by
  after_results; rfl

/-- The operations up to the code words. -/
abbrev opsCodes : List (HloOp τ sig (Elt Ideal)) := hostOps0.take 24

/-- The operations after the code words. -/
abbrev opsHot : List (HloOp τ sig (Elt Ideal)) := hostOps0.drop 24

theorem split : StableHlo.after hostOps0 Vl = StableHlo.after opsHot (StableHlo.after opsCodes Vl) := by
  rw [← ReferenceIdeal.Line.after_append', List.take_append_drop]

theorem hot_v16 : StableHlo.after opsHot Vl (Proc.devRef .tc main_call0_v16) = Vl (Proc.devRef .tc main_call0_v16) := by
  simp only [opsHot, hostOps0, List.drop_succ_cons, List.drop_zero]
  after_results

theorem hot_v3 : StableHlo.after opsHot Vl (Proc.devRef .tc main_v0_3) = enc (Vl (Proc.devRef .tc main_call0_v16)) := by
  simp only [opsHot, hostOps0, List.drop_succ_cons, List.drop_zero]
  after_results; rfl

theorem hot_v23 : StableHlo.after opsHot Vl (Proc.devRef .tc main_call0_v23) = column (Vl (Proc.devRef .tc main_call0_v16)) := by
  simp only [opsHot, hostOps0, List.drop_succ_cons, List.drop_zero]
  after_results; rfl

theorem enc_v3 : StableHlo.after hostOps0 Vl (Proc.devRef .tc main_v0_3)
    = enc (ReferenceIdeal.Line.codes (F := Ideal) (Vl (Proc.devRef .tc main_arg0)) (Vl (Proc.devRef .tc main_arg1))) := by
  rw [← codes_v16, split, hot_v3, hot_v16]

theorem column_v23 : StableHlo.after hostOps0 Vl (Proc.devRef .tc main_call0_v23)
    = column (ReferenceIdeal.Line.codes (F := Ideal) (Vl (Proc.devRef .tc main_arg0)) (Vl (Proc.devRef .tc main_arg1))) := by
  rw [← codes_v16, split, hot_v23, hot_v16]

/-! ## After the region -/

theorem tail_v0 : StableHlo.after hostOps1 Vl (Proc.devRef .tc main_v0_0)
    = shapeCast S_ (Vl (Proc.devRef .tc main_call0_v24_1) : FVec Ideal S1x1 .f32) Facts₀.shapeCasts_S1x1_S_ := by
  after_results; rfl

theorem tail_v1 : StableHlo.after hostOps1 Vl (Proc.devRef .tc main_v0_1)
    = transpose S8x32x32x32 [0, 3, 1, 2] (shapeCast S8x32x32x32 (Vl (Proc.devRef .tc main_call0_v24_0) : FVec Ideal S8192x32 .f32)
      Facts₀.shapeCasts_S8192x32_S8x32x32x32) Facts₀.transposes_S8x32x32x32_S8x32x32x32_0_3_1_2 := by
  after_results; rfl

theorem tail_v2 : StableHlo.after hostOps1 Vl (Proc.devRef .tc main_v0_2)
    = shapeCast S_ (Vl (Proc.devRef .tc main_call0_v24_2) : FVec Ideal S1x1 .f32) Facts₀.shapeCasts_S1x1_S_ := by
  after_results; rfl

theorem tail_v3 : StableHlo.after hostOps1 Vl (Proc.devRef .tc main_v0_3) = Vl (Proc.devRef .tc main_v0_3) := by
  after_results

theorem tail_v4 : StableHlo.after hostOps1 Vl (Proc.devRef .tc main_v0_4) = column (Vl (Proc.devRef .tc main_call0_v16)) := by
  after_results; rfl

end Cert.KernelIdeal.Host
-- ==== Proof.Ker.Run.lean ====
/-
  THE KERNEL'S RUN AT `Ideal`, WITH ITS FIVE RESULTS: the region's arrays and the untouched buffers of the generated
  run, read through the host operations before and after the region.
-/
module

public import proofs.«01_k».proof.Proof.Ker.Host

@[expose] public section

set_option maxRecDepth 16384

noncomputable section

namespace Cert.KernelIdeal.Run

open Cert.KernelIdeal Cert.KernelIdeal.Gen Cert.KernelIdeal.Arrays Cert.KernelIdeal.Host
open Idealize.ShloMosaic Idealize.ShloMosaic.TcCoe Idealize.ShloMosaic.Pipeline Idealize.SL.Sem

variable [Cert.ReferenceIdeal.Facts]

variable (m : (ℓ : Loc nD τ sig) → Buf (Elt Ideal) ℓ)

/-! ## The region's start -/

theorem V0_flat (c : Dev nD) : V0 m c = StableHlo.after hostOps0 (fun b => m (c, b)) := by
  unfold V0; rw [List.flatten_cons, List.flatten_nil, List.append_nil]

theorem Zk_eq (c : Dev nD) : Zk m c = ReferenceIdeal.Line.rows (F := Ideal) (m (c.tc.loc main_arg0)) :=
  (congrFun (V0_flat m c) _).trans (rows_v1 _)

theorem Wk_eq (c : Dev nD) : Wk m c = m (c.tc.loc main_arg1) := V_main_arg1 m c

theorem word_eq (c : Dev nD) : V m c main_call0_v16 = ReferenceIdeal.Line.codes (F := Ideal) (m (c.tc.loc main_arg0)) (m (c.tc.loc main_arg1)) :=
  (congrFun (V0_flat m c) _).trans (codes_v16 _)

theorem Ik_eq (c : Dev nD) : Ik m c = column (ReferenceIdeal.Line.codes (F := Ideal) (m (c.tc.loc main_arg0)) (m (c.tc.loc main_arg1))) :=
  (congrFun (V0_flat m c) _).trans (column_v23 _)

theorem enc_eq (c : Dev nD) : V m c main_v0_3 = enc (ReferenceIdeal.Line.codes (F := Ideal) (m (c.tc.loc main_arg0)) (m (c.tc.loc main_arg1))) :=
  (congrFun (V0_flat m c) _).trans (enc_v3 _)

/-! ## The end -/

/-- The buffers when the region is over. -/
def U (c : Dev nD) : Valuation τ sig (Elt Ideal) :=
  Pipeline.withArrays (cfgs 0).spec c (V0 m c) fun w => (dats m 0 c).arrAt w (cfgs 0).N

theorem tail_flat (c : Dev nD) (b : Ref sig .tc) :
    Pipeline.afterTail₀ cfgs (dats m) 0 (V0 m) [hostOps1] c b = StableHlo.after hostOps1 (U m c) (Proc.devRef .tc b) := by
  unfold Pipeline.afterTail₀ U; rw [List.flatten_cons, List.flatten_nil, List.append_nil]

theorem arr_inj : Function.Injective (Pipeline.arrRef spec0) := by decide

theorem U_v24_0 (c : Dev nD) : U m c (Proc.devRef .tc main_call0_v24_0) = allOut (Zk m c) (Wk m c) (Ik m c) :=
  (Pipeline.withArrays_arr spec0 arr_inj c (V0 m c) (fun w => (dats m 0 c).arrAt w (cfgs 0).N) 3).trans (array3 m c)

theorem U_v24_1 (c : Dev nD) : U m c (Proc.devRef .tc main_call0_v24_1) = k0_pay2 (F := Ideal) (lossTo (Zk m c) (Wk m c) (Ik m c) 8) :=
  (Pipeline.withArrays_arr spec0 arr_inj c (V0 m c) (fun w => (dats m 0 c).arrAt w (cfgs 0).N) 4).trans (array4 m c)

theorem U_v24_2 (c : Dev nD) : U m c (Proc.devRef .tc main_call0_v24_2) = k0_pay3 (F := Ideal) (countTo (Ik m c) 8) :=
  (Pipeline.withArrays_arr spec0 arr_inj c (V0 m c) (fun w => (dats m 0 c).arrAt w (cfgs 0).N) 5).trans (array5 m c)

theorem U_v16 (c : Dev nD) : U m c (Proc.devRef .tc main_call0_v16) = ReferenceIdeal.Line.codes (F := Ideal) (m (c.tc.loc main_arg0)) (m (c.tc.loc main_arg1)) :=
  (Pipeline.withArrays_of_ne spec0 c (V0 m c) _ main_call0_v16 (by decide)).trans (word_eq m c)

theorem U_v3 (c : Dev nD) : U m c (Proc.devRef .tc main_v0_3) = enc (ReferenceIdeal.Line.codes (F := Ideal) (m (c.tc.loc main_arg0)) (m (c.tc.loc main_arg1))) :=
  (Pipeline.withArrays_of_ne spec0 c (V0 m c) _ main_v0_3 (by decide)).trans (enc_eq m c)

/-- The kernel's loss over the arrays it is given. -/
def kLoss (Z W : FVec Ideal S8192x32 .f32) (I : IVec S8192x1 32) : FVec Ideal S_ .f32 :=
  shapeCast S_ (k0_pay2 (F := Ideal) (lossTo Z W I 8)) Facts₀.shapeCasts_S1x1_S_

/-- The kernel's perplexity over the column of words. -/
def kPerp (I : IVec S8192x1 32) : FVec Ideal S_ .f32 :=
  shapeCast S_ (k0_pay3 (F := Ideal) (countTo I 8)) Facts₀.shapeCasts_S1x1_S_

/-- The kernel's output in the input's layout. -/
def kOut (Z W : FVec Ideal S8192x32 .f32) (I : IVec S8192x1 32) : FVec Ideal S8x32x32x32 .f32 :=
  transpose S8x32x32x32 [0, 3, 1, 2] (shapeCast S8x32x32x32 (allOut Z W I : FVec Ideal S8192x32 .f32)
    Facts₀.shapeCasts_S8192x32_S8x32x32x32) Facts₀.transposes_S8x32x32x32_S8x32x32x32_0_3_1_2

/-- Every final state has the five results, and the arguments as launched. -/
theorem run (ρ : Dev nD → PrngReg) : θ_run defs (onTc (τ := τ) (main (F := Ideal))) ⟨m, fun _ => 0, ρ⟩ fun r => ∀ c : Dev nD,
    let x : FVec Ideal ReferenceIdeal.S8x32x32x32 .f32 := m (c.tc.loc main_arg0)
    let w : FVec Ideal ReferenceIdeal.S8192x32 .f32 := m (c.tc.loc main_arg1)
    let i := ReferenceIdeal.Line.codes (F := Ideal) x w
    let z := ReferenceIdeal.Line.rows (F := Ideal) x
    r.2.mem (c.tc.loc main_v0_0) = kLoss z w (column i)
    ∧ r.2.mem (c.tc.loc main_v0_1) = kOut z w (column i)
    ∧ r.2.mem (c.tc.loc main_v0_2) = kPerp (column i)
    ∧ r.2.mem (c.tc.loc main_v0_3) = enc i
    ∧ r.2.mem (c.tc.loc main_v0_4) = column i
    ∧ r.2.mem (c.tc.loc main_arg0) = m (c.tc.loc main_arg0)
    ∧ r.2.mem (c.tc.loc main_arg1) = m (c.tc.loc main_arg1) := by
  refine θ_run_mono (run_main m ρ) ?_
  intro r h c
  dsimp only
  refine ⟨?_, ?_, ?_, ?_, ?_, ?_, ?_⟩
  · refine ((h c).2 main_v0_0 (Pipeline.mem_restRefs_of main_v0_0 (by decide) (by decide))).trans ?_
    rw [tail_flat, tail_v0, U_v24_1, Zk_eq, Wk_eq, Ik_eq]; rfl
  · refine ((h c).2 main_v0_1 (Pipeline.mem_restRefs_of main_v0_1 (by decide) (by decide))).trans ?_
    rw [tail_flat, tail_v1, U_v24_0, Zk_eq, Wk_eq, Ik_eq]; rfl
  · refine ((h c).2 main_v0_2 (Pipeline.mem_restRefs_of main_v0_2 (by decide) (by decide))).trans ?_
    rw [tail_flat, tail_v2, U_v24_2, Ik_eq]; rfl
  · refine ((h c).2 main_v0_3 (Pipeline.mem_restRefs_of main_v0_3 (by decide) (by decide))).trans ?_
    rw [tail_flat, tail_v3, U_v3]
  · refine ((h c).2 main_v0_4 (Pipeline.mem_restRefs_of main_v0_4 (by decide) (by decide))).trans ?_
    rw [tail_flat, tail_v4, U_v16]
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Cert.KernelIdeal.Run
-- ==== Proof.Math.Argmin.lean ====
/-
  THE CODE WORDS ARE CODE NUMBERS: every entry of `nearest d` is below 8192. The reduction keeps one of its two operands' words
  at each step, it starts from the word 0, and the words it folds over are column numbers.
-/
module

public import proofs.«01_k».proof.Proof.Ref.Run
public import Idealize.ShloMosaic.PureOps.Ideal.Laws

@[expose] public section

noncomputable section

namespace Cert.ReferenceIdeal.Line

open Idealize.ShloMosaic Cert.ReferenceIdeal

variable [Facts]

/-- A selected word is one of the two. -/
theorem select_cases {w : ℕ} (c : BitVec 1) (a b : BitVec w) : Scalar.select c a b = a ∨ Scalar.select c a b = b := by
  unfold Scalar.select
  split
  · exact Or.inl rfl
  · exact Or.inr rfl

/-- One step of the reduction keeps one of its two words. -/
theorem step_word (p q : Ideal .f32 × BitVec 32) :
    (reducer_argmin_f32_i32 (F := Ideal) p q).2 = p.2 ∨ (reducer_argmin_f32_i32 (F := Ideal) p q).2 = q.2 :=
  select_cases _ _ _

/-- A fold of such steps keeps any property all the words have. -/
theorem fold_word (P : BitVec 32 → Prop) (l : List (Ideal .f32 × BitVec 32)) (hl : ∀ p ∈ l, P p.2) :
    ∀ a : Ideal .f32 × BitVec 32, P a.2 → P (l.foldl (reducer_argmin_f32_i32 (F := Ideal)) a).2 := by
  induction l with
  | nil => exact fun a ha => ha
  | cons p l ih =>
    intro a ha
    refine ih (fun q hq => hl q (List.mem_cons_of_mem _ hq)) _ ?_
    rcases step_word a p with e | e
    · rw [e]; exact ha
    · rw [e]; exact hl p List.mem_cons_self

/-- A property of the start word and of every word of the array holds of the words the reduction keeps. -/
theorem kept_word (P : BitVec 32 → Prop) (x : FVec Ideal S8192x8192 .f32) (y : S8192x8192.Idx → BitVec 32) (ix : S_.Idx → Ideal .f32)
    (iy : S_.Idx → BitVec 32) (h : S8192x8192.ReducesTo [1] S8192) (hu : 0 < S_.numel) (hy : ∀ i, P (y i)) (hiy : ∀ i, P (iy i)) (j : S8192.Idx) :
    P (Host.argReduce (reducer_argmin_f32_i32 (F := Ideal)) x y ix iy h hu j).2 := by
  rw [Idealize.ShloMosaic.Ideal.argReduce_eq_reduce2, Host.reduce2_eq_foldl_fiber]
  refine fold_word P _ ?_ _ (hiy _)
  intro p hp
  unfold Host.argReduceFiber at hp
  obtain ⟨n, _, rfl⟩ := List.mem_map.mp hp
  exact hy _

/-- A word that is a code number. -/
def IsCode (v : BitVec 32) : Prop := v.toNat < 8192

theorem column_isCode (y : S8192x8192.Idx) : IsCode (iotaInDim S8192x8192 32 1 y) := by
  have h : (y 1).val < 8192 := (y 1).isLt
  show (BitVec.ofNat 32 (y 1).val).toNat < 8192
  rw [BitVec.toNat_ofNat]
  exact lt_of_le_of_lt (Nat.mod_le _ _) h

theorem zero_isCode (y : S_.Idx) : IsCode (constantI S_ 32 0#32 y) := by
  show (0#32).toNat < 8192
  decide

/-- The nearest codes, as the function they are. -/
theorem nearest_eq (d : FVec Ideal S8192x8192 .f32) : nearest d = fun j =>
    (Host.argReduce (reducer_argmin_f32_i32 (F := Ideal)) d (iotaInDim S8192x8192 32 1) (constant S_ .f32 0x7F800000#32)
      (constantI S_ 32 0#32) Facts₀.reducesTo_S8192x8192_S8192_d1 Facts₀.h_S_ j).2 := rfl

/-- Every nearest code is a code number. -/
theorem nearest_isCode (d : FVec Ideal S8192x8192 .f32) : ∀ j : S8192.Idx, IsCode (nearest d j) := by
  rw [nearest_eq]
  exact fun j => kept_word IsCode d (iotaInDim S8192x8192 32 1) (constant S_ .f32 0x7F800000#32) (constantI S_ 32 0#32)
    Facts₀.reducesTo_S8192x8192_S8192_d1 Facts₀.h_S_ column_isCode zero_isCode j

end Cert.ReferenceIdeal.Line
-- ==== Proof.Math.OneHot.lean ====
/-
  ONE-HOT MATRICES. The reference scatters a one at (row, code) for every row; the host of the kernel compares a row of
  column numbers with the words and turns the result. Both are `hot`, the entry that is one exactly where the row's word is
  the column's number.
-/
module

public import proofs.«01_k».proof.Proof.Ker.Host
public import proofs.«01_k».proof.Proof.Math.Argmin
public import Idealize.ShloMosaic.Lib.Pointwise
public import Idealize.ShloMosaic.Lib.Routing.OpsPair
public import Idealize.ShloMosaic.Lib.IdealHost

@[expose] public section

noncomputable section

namespace Cert.ReferenceIdeal.Line

open Idealize.ShloMosaic Cert.ReferenceIdeal
open Cert.KernelIdeal.Tile (hot)

variable [Facts]

/-- A word below 8192 is not negative: the wrap leaves it, and read signed it is its number. -/
theorem wrap_small (v a : BitVec 32) (h : IsCode v) : Scalar.select (IntOp.cmpi .slt v 0#32) a v = v :=
  Routing.wrap_of_lt v a (lt_trans h (by decide))

theorem isCode_ofNat (n : Fin 8192) : IsCode (BitVec.ofNat 32 n.val) := by
  show (BitVec.ofNat 32 n.val).toNat < 8192
  rw [BitVec.toNat_ofNat]
  exact lt_of_le_of_lt (Nat.mod_le _ _) n.isLt

theorem toInt_small (v : BitVec 32) (h : IsCode v) : v.toInt = (v.toNat : ℤ) :=
  BitVec.toInt_eq_toNat_of_lt (by have : v.toNat < 8192 := h; omega)

theorem toNat_small (n : Fin 8192) : (BitVec.ofNat 32 n.val).toNat = n.val := by
  rw [BitVec.toNat_ofNat]; exact Nat.mod_eq_of_lt (lt_trans n.isLt (by decide))

variable (i : IVec S8192 32)

/-- A pair's first word is its row. -/
theorem pairs_row (n : Fin 8192) : pairs i (ix2 n 0) = BitVec.ofNat 32 n.val := by
  unfold pairs wrapped
  pointwise
  exact wrap_small _ _ (isCode_ofNat n)

/-- A pair's second word is the row's code. -/
theorem pairs_code (hi : ∀ n, IsCode (i (ix1 n))) (n : Fin 8192) : pairs i (ix2 n 1) = i (ix1 n) := by
  unfold pairs wrapped
  pointwise
  exact wrap_small _ _ (hi n)

omit [Facts] in
/-- Where an update lands: at the row and the column its two words name. -/
theorem lands (d : ScatterDims S8192x8192 S8192x2 S8192) (hiw : d.insertedWindowDims = [0, 1])
    (hsd : d.scatterDimsToOperandDims = [0, 1]) (hivd : d.indexVectorDim = 1) (idx : IVec S8192x2 32)
    (k : S8192.Idx) (ι : S8192x8192.Idx) :
    d.resultIdx? k idx = some ι ↔ (idx (ix2 (k 0) 0)).toInt = ((ι 0).val : ℤ) ∧ (idx (ix2 (k 0) 1)).toInt = ((ι 1).val : ℤ) := by
  have hu : d.uScatter = [0] := by
    have huw : d.updateWindowDims = [] := List.eq_nil_of_length_eq_zero (by
      rw [d.window_length]
      show (S8192x8192.kept d.insertedWindowDims).length = 0
      rw [hiw]; rfl)
    show S8192.kept d.updateWindowDims = _
    rw [huw]; rfl
  have hk : d.siKept = [0] := by
    show (List.finRange 2).filter (fun x => decide (x.val ≠ d.indexVectorDim)) = _
    rw [hivd]; rfl
  have hm : ∀ q : Fin 2, q ∈ d.scatterDimsToOperandDims := fun q => by rw [hsd]; fin_cases q <;> simp
  have hwin : ∀ q : Fin 2, d.window k q = 0 := fun q => by
    unfold ScatterDims.window
    rw [dif_neg fun h => (of_decide_eq_true (List.mem_filter.1 h).2) (by rw [hiw]; fin_cases q <;> simp)]
  have hone : ∀ (l : List (Fin 1)) (n : ℕ) (h : n < l.length), l[n]'h = 0 := fun l n h => Subsingleton.elim _ _
  have hsi : ∀ q : Fin 2, d.siIdx k ⟨d.scatterDimsToOperandDims.idxOf q, List.idxOf_lt_length_iff.2 (hm q)⟩ = ix2 (k 0) q := fun q => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [hone]
      rfl
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start k idx q = (idx (ix2 (k 0) q)).toInt := fun q => by
    unfold ScatterDims.start
    rw [dif_pos (hm q), hsi]; rfl
  rw [Routing.resultIdx?_eq_some]
  constructor
  · intro h
    have h0 := h 0
    have h1 := h 1
    rw [hstart, hwin] at h0 h1
    exact ⟨by omega, by omega⟩
  · rintro ⟨h0, h1⟩ a
    match a with
    | ⟨0, _⟩ => show d.start k idx (0 : Fin 2) + (d.window k (0 : Fin 2) : ℤ) = _; rw [hstart, hwin, h0]; exact add_zero _
    | ⟨1, _⟩ => show d.start k idx (1 : Fin 2) + (d.window k (1 : Fin 2) : ℤ) = _; rw [hstart, hwin, h1]; exact add_zero _

omit [Facts] in
/-- A fold that puts the same value wherever a test holds. -/
theorem fold_put {α β : Type} (p : β → Prop) [DecidablePred p] (v : α) (l : List β) :
    ∀ a : α, l.foldl (fun a n => if p n then v else a) a = if ∃ n ∈ l, p n then v else a := by
  induction l with
  | nil => intro a; rw [if_neg (by rintro ⟨n, h, _⟩; cases h)]; rfl
  | cons n l ih =>
    intro a
    refine (ih _).trans ?_
    by_cases h : ∃ k ∈ l, p k
    · obtain ⟨k, hk, hp⟩ := h
      rw [if_pos ⟨k, hk, hp⟩, if_pos ⟨k, List.mem_cons_of_mem _ hk, hp⟩]
    · rw [if_neg h]
      by_cases hn : p n
      · show (if p n then v else a) = _
        rw [if_pos hn, if_pos ⟨n, List.mem_cons_self, hn⟩]
      · show (if p n then v else a) = _
        rw [if_neg hn, if_neg]
        rintro ⟨k, hk, hp⟩
        rcases List.mem_cons.mp hk with rfl | hk
        · exact hn hp
        · exact h ⟨k, hk, hp⟩

/-- An update of the reference's scatter lands at `(r, c)` exactly when it is row `r`'s and that row's code is `c`. -/
theorem lands_iff (hi : ∀ n, IsCode (i (ix1 n))) (k r c : Fin 8192) :
    scatter_S8192x8192_S8192x2_S8192_n_01_01_1.resultIdx? (ix1 k) (pairs i) = some (ix2 r c)
      ↔ k = r ∧ i (ix1 r) = BitVec.ofNat 32 c.val := by
  refine (lands _ rfl rfl rfl (pairs i) (ix1 k) (ix2 r c)).trans ?_
  show (pairs i (ix2 k 0)).toInt = (r.val : ℤ) ∧ (pairs i (ix2 k 1)).toInt = (c.val : ℤ) ↔ _
  rw [pairs_row, pairs_code i hi, toInt_small _ (isCode_ofNat k), toInt_small _ (hi k), toNat_small]
  constructor
  · rintro ⟨h0, h1⟩
    obtain rfl : k = r := Fin.ext (by omega)
    exact ⟨rfl, BitVec.eq_of_toNat_eq (by rw [toNat_small]; omega)⟩
  · rintro ⟨rfl, h⟩
    refine ⟨rfl, ?_⟩
    rw [h, toNat_small]

omit [Facts] in
/-- An index of a vector is its one coordinate. -/
theorem idx_one (y : S8192.Idx) : y = ix1 (y 0) := funext fun a => match a with | ⟨0, _⟩ => rfl

/-- The reference's one-hot matrix. -/
theorem oneHot_at (hi : ∀ n, IsCode (i (ix1 n))) (r c : Fin 8192) : oneHot (F := Ideal) i (ix2 r c) = hot (i (ix1 r)) c.val := by
  unfold oneHot
  rw [Routing.scatter_at]
  have e1 : ∀ y : S8192.Idx, broadcastInDim S8192 ![] Facts₀.bcast_S_S8192 (constant (F := Ideal) S_ .f32 0x3F800000#32) y = (1 : EReal) :=
    fun y => Ideal.ofBits_one_f32
  have e0 : broadcastInDim S8192x8192 ![] Facts₀.bcast_S_S8192x8192 (constant (F := Ideal) S_ .f32 0x00000000#32) (ix2 r c) = (0 : EReal) :=
    Ideal.ofBits_zero_f32
  rw [e0]
  simp only [e1]
  have key := fold_put (fun n => scatter_S8192x8192_S8192x2_S8192_n_01_01_1.resultIdx? (S8192.rowMajor.symm n) (pairs i) = some (ix2 r c))
    (1 : EReal) (List.finRange S8192.numel) 0
  refine key.trans ?_
  clear key
  unfold hot
  by_cases h : i (ix1 r) = BitVec.ofNat 32 c.val
  · rw [if_pos h]
    refine if_pos ⟨S8192.rowMajor (ix1 r), List.mem_finRange _, ?_⟩
    rw [Equiv.symm_apply_apply]
    exact (lands_iff i hi r r c).mpr ⟨rfl, h⟩
  · rw [if_neg h]
    refine if_neg ?_
    rintro ⟨n, _, hn⟩
    rw [idx_one (S8192.rowMajor.symm n)] at hn
    exact h ((lands_iff i hi _ r c).mp hn).2

variable [KernelIdeal.Facts]

/-- The kernel's column of words at a row. -/
theorem column_at (n : Fin 8192) : KernelIdeal.Host.column i (ix2 n 0) = i (ix1 n) := by
  unfold KernelIdeal.Host.column
  pointwise

/-- The kernel's one-hot matrix. -/
theorem enc_at (r c : Fin 8192) : KernelIdeal.Host.enc i (ix2 r c) = hot (i (ix1 r)) c.val := by
  unfold KernelIdeal.Host.enc
  pointwise
  unfold hot
  by_cases h : i (ix1 r) = BitVec.ofNat 32 c.val
  · rw [if_pos h, h]
    have e : IntOp.cmpi .eq (BitVec.ofNat 32 c.val) (BitVec.ofNat 32 c.val) = 1#1 := by simp [IntOp.cmpi]
    rw [e]
    show (((1 : ℕ) : ℝ) : EReal) = 1
    norm_num
  · rw [if_neg h]
    have e : IntOp.cmpi .eq (BitVec.ofNat 32 c.val) (i (ix1 r)) = 0#1 := by
      show BitVec.ofBool (BitVec.ofNat 32 c.val == i (ix1 r)) = 0#1
      rw [beq_false_of_ne (Ne.symm h)]; rfl
    rw [e]
    show (((0 : ℕ) : ℝ) : EReal) = 0
    norm_num

/-- The two one-hot matrices are the same. -/
theorem enc_eq_oneHot (hi : ∀ n, IsCode (i (ix1 n))) : KernelIdeal.Host.enc i = oneHot (F := Ideal) i := by
  funext y
  obtain ⟨r, c, rfl⟩ : ∃ r c : Fin 8192, y = ix2 r c := ⟨y 0, y 1, ValueIdx.eq_ix2 y⟩
  exact (enc_at i r c).trans (oneHot_at i hi r c).symm

end Cert.ReferenceIdeal.Line
-- ==== Proof.Math.Results.lean ====
/-
  THE FIVE RESULTS ARE THE SAME. Over one column of words that are code numbers: the reference's selected codes are the named
  rows of the code book, the sum of the squared differences over the input's four axes is the kernel's sum over points, rows and
  channels, and the column sums of the one-hot matrix are the kernel's counts.
-/
module

public import proofs.«01_k».proof.Proof.Math.OneHot
public import proofs.«01_k».proof.Proof.Ker.Run

@[expose] public section

noncomputable section

namespace Cert.ReferenceIdeal.Line

open Idealize.ShloMosaic Cert.ReferenceIdeal
open Cert.KernelIdeal.Tile (hot)
open Cert.KernelIdeal.Arrays (zBlk iBlk gain lossTo countTo allOut)
open Cert.KernelIdeal.Cases (tally tileRows)
open scoped BigOperators

/-! ## Sums by chunks -/

/-- Eight stretches of 1024 are the whole range. -/
theorem sum_stretches (g : ℕ → EReal) (n : ℕ) :
    ∑ s ∈ Finset.range n, ∑ r : Fin 1024, g (1024 * s + r.val) = ∑ k ∈ Finset.range (1024 * n), g k := by
  induction n with
  | zero => simp
  | succ n ih =>
    rw [Finset.sum_range_succ, ih, Nat.mul_succ, Finset.sum_range_add]
    exact congrArg _ (Finset.sum_range fun r => g (1024 * n + r)).symm

/-- A function of row numbers, zero past the last row. -/
def past (g : Fin 8192 → EReal) (k : ℕ) : EReal := if h : k < 8192 then g ⟨k, h⟩ else 0

theorem past_of_lt (g : Fin 8192 → EReal) {k : ℕ} (h : k < 8192) : past g k = g ⟨k, h⟩ := dif_pos h

/-- The same over row numbers below 8192. -/
theorem sum_rows (g : Fin 8192 → EReal) (f : ℕ → Fin 1024 → EReal)
    (hf : ∀ s r (h : 1024 * s + r.val < 8192), f s r = g ⟨1024 * s + r.val, h⟩) :
    ∑ s ∈ Finset.range 8, ∑ r : Fin 1024, f s r = ∑ k : Fin 8192, g k := by
  have e : ∀ s ∈ Finset.range 8, ∑ r : Fin 1024, f s r = ∑ r : Fin 1024, past g (1024 * s + r.val) := by
    intro s hs
    have h8 : s < 8 := Finset.mem_range.mp hs
    refine Finset.sum_congr rfl fun r _ => ?_
    have hr := r.isLt
    have h : 1024 * s + r.val < 8192 := by omega
    exact (hf s r h).trans (past_of_lt g h).symm
  rw [Finset.sum_congr rfl e, sum_stretches (past g), show 1024 * 8 = 8192 from rfl, Finset.sum_range]
  exact Finset.sum_congr rfl fun k _ => past_of_lt g k.isLt

variable [Facts] [KernelIdeal.Facts] (i : IVec S8192 32) (Z W : FVec Ideal S8192x32 .f32)

/-- The rows the words name. -/
def named : FVec Ideal S8192x32 .f32 := fun y => ∑ n : Fin 8192, hot (i (ix1 (y 0))) n.val * W (ix2 n (y 1))

/-- The squared difference of a named row and the input's. -/
def sqDiff : S8192x32.Idx → EReal := fun y => (named i W y - Z y) * (named i W y - Z y)

/-! ## A point's blocks -/

theorem iBlk_at (s : ℕ) (r : Fin 1024) (h : 1024 * s + r.val < 8192) :
    iBlk (KernelIdeal.Host.column i) s (ix2 r 0) = i (ix1 ⟨1024 * s + r.val, h⟩) :=
  (dif_pos h).trans (column_at i _)

theorem pair_at (s : ℕ) (r : Fin 1024) (c : Fin 32) (h : 1024 * s + r.val < 8192) :
    (tileRows W (iBlk (KernelIdeal.Host.column i) s) (ix2 r c) - zBlk Z s (ix2 r c))
      * (tileRows W (iBlk (KernelIdeal.Host.column i) s) (ix2 r c) - zBlk Z s (ix2 r c)) = sqDiff i Z W (ix2 ⟨1024 * s + r.val, h⟩ c) := by
  have ez : zBlk Z s (ix2 r c) = Z (ix2 ⟨1024 * s + r.val, h⟩ c) := dif_pos h
  have et : tileRows W (iBlk (KernelIdeal.Host.column i) s) (ix2 r c) = named i W (ix2 ⟨1024 * s + r.val, h⟩ c) := by
    show (∑ n : Fin 8192, hot (iBlk (KernelIdeal.Host.column i) s (ix2 r 0)) n.val * W (ix2 n c)) = _
    rw [iBlk_at i s r h]; rfl
  rw [ez, et]; rfl

/-- The kernel's running loss after all points: every row and channel's squared difference. -/
theorem lossTo_eq : lossTo Z W (KernelIdeal.Host.column i) 8 = ∑ k : Fin 8192, ∑ c : Fin 32, sqDiff i Z W (ix2 k c) := by
  unfold lossTo gain
  exact sum_rows (fun k => ∑ c : Fin 32, sqDiff i Z W (ix2 k c)) _ fun s r h => Finset.sum_congr rfl fun c _ => pair_at i Z W s r c h

/-- The kernel's counts after all points: the number of rows that name the code. -/
theorem countTo_eq (n : Fin 8192) : countTo (KernelIdeal.Host.column i) 8 (ix2 0 n) = ∑ k : Fin 8192, hot (i (ix1 k)) n.val := by
  show ∑ s ∈ Finset.range 8, tally (iBlk (KernelIdeal.Host.column i) s) n.val = _
  unfold tally
  refine sum_rows (fun k => hot (i (ix1 k)) n.val) _ fun s r h => ?_
  rw [iBlk_at i s r h]

/-! ## The reference's terms -/

variable (x : FVec Ideal S8x32x32x32 .f32) (hi : ∀ n, IsCode (i (ix1 n)))

omit [KernelIdeal.Facts] in
include hi in
/-- The reference's selected codes are the named rows, in the input's shape. -/
theorem picked_eq : picked (F := Ideal) (oneHot i) W
    = shapeCast S8x32x32x32 (named i W) Facts₀.shapeCasts_S8192x32_S8x32x32x32 := by
  unfold picked
  refine congrArg (fun v => shapeCast S8x32x32x32 v Facts₀.shapeCasts_S8192x32_S8x32x32x32) (funext fun y => ?_)
  obtain ⟨r, c, rfl⟩ : ∃ (r : Fin 8192) (c : Fin 32), y = ix2 r c := ⟨y 0, y 1, ValueIdx.eq_ix2 y⟩
  pointwise
  exact Finset.sum_congr rfl fun k _ => congrArg (· * W (ix2 k c)) (oneHot_at i hi r k)

omit [KernelIdeal.Facts] in
/-- The input with its channels last is its rows, in the input's shape. -/
theorem chanLast_eq : chanLast x = shapeCast S8x32x32x32 (rows x) Facts₀.shapeCasts_S8192x32_S8x32x32x32 := by
  funext y
  obtain ⟨n, a, b, c, rfl⟩ : ∃ (n : Fin 8) (a b c : Fin 32), y = ix4 n a b c := ⟨y 0, y 1, y 2, y 3, ValueIdx.eq_ix4 y⟩
  unfold rows chanLast
  pointwise

omit [KernelIdeal.Facts] in
include hi in
/-- The reference's sum of squared differences over the input's four axes. -/
theorem total_eq : ∑ y : S8x32x32x32.Idx, mulf (subf (picked (F := Ideal) (oneHot i) W) (chanLast x)) (subf (picked (F := Ideal) (oneHot i) W) (chanLast x)) y
    = ∑ k : Fin 8192, ∑ c : Fin 32, sqDiff i (rows x) W (ix2 k c) := by
  rw [picked_eq i W hi, chanLast_eq x]
  refine Eq.trans ?_ (ValueIdx.sum_idx2 (sqDiff i (rows x) W))
  exact Equiv.sum_comp (Shape.reshapeEquiv Facts₀.shapeCasts_S8192x32_S8x32x32x32) (sqDiff i (rows x) W)

include hi in
/-- The losses are the same. -/
theorem loss_eq : KernelIdeal.Run.kLoss (rows x) W (KernelIdeal.Host.column i) = loss (F := Ideal) (picked (oneHot i) W) (chanLast x) := by
  funext y
  obtain rfl : y = ix0 := funext fun a => a.elim0
  have em : meanSq (F := Ideal) (picked (oneHot i) W) (chanLast x) ix0
      = Ideal.div (∑ k : Fin 8192, ∑ c : Fin 32, sqDiff i (rows x) W (ix2 k c)) (Ideal.ofBits .f32 0x48800000#32) := by
    unfold meanSq
    pointwise
    rw [Ideal.hostReduceAdd_total _ (fun b => b.elim0), zero_add, total_eq i W x hi]
  have er : loss (F := Ideal) (picked (oneHot i) W) (chanLast x) ix0
      = Ideal.ofBits .f32 0x3E800000#32 * meanSq (F := Ideal) (picked (oneHot i) W) (chanLast x) ix0
        + meanSq (F := Ideal) (picked (oneHot i) W) (chanLast x) ix0 := rfl
  rw [er, em, ← lossTo_eq]
  rfl

include hi in
/-- The perplexities are the same. -/
theorem perplexity_eq : KernelIdeal.Run.kPerp (KernelIdeal.Host.column i) = perplexity (F := Ideal) (oneHot i) := by
  funext y
  obtain rfl : y = ix0 := funext fun a => a.elim0
  have ek : KernelIdeal.Run.kPerp (KernelIdeal.Host.column i) ix0
      = KernelIdeal.Gen.k0_pay3 (F := Ideal) (countTo (KernelIdeal.Host.column i) 8) (ix2 0 0) := by
    unfold KernelIdeal.Run.kPerp
    pointwise
  have ec : ∀ n : Fin 8192, ∑ k : Fin 8192, oneHot (F := Ideal) i (ix2 k n) = countTo (KernelIdeal.Host.column i) 8 (ix2 0 n) := fun n =>
    (Finset.sum_congr rfl fun k _ => oneHot_at i hi k n).trans (countTo_eq i n).symm
  rw [ek]
  unfold KernelIdeal.Gen.k0_pay3 perplexity share
  pointwise
  simp only [ec, zero_sub, Finset.univ_unique, Finset.sum_singleton]

include hi in
/-- The outputs are the same. -/
theorem through_eq : KernelIdeal.Run.kOut (rows x) W (KernelIdeal.Host.column i)
    = through (F := Ideal) (picked (oneHot i) W) (chanLast x) := by
  have ea : allOut (rows x) W (KernelIdeal.Host.column i) = addf (F := Ideal) (φ := .f32) (rows x) (subf (named i W) (rows x)) := by
    funext y
    obtain ⟨r, c, rfl⟩ : ∃ (r : Fin 8192) (c : Fin 32), y = ix2 r c := ⟨y 0, y 1, ValueIdx.eq_ix2 y⟩
    show rows x (ix2 r c) + ((∑ n : Fin 8192, hot (KernelIdeal.Host.column i (ix2 r 0)) n.val * W (ix2 n c)) - rows x (ix2 r c)) = _
    rw [column_at]; rfl
  unfold KernelIdeal.Run.kOut through
  rw [picked_eq i W hi, chanLast_eq x, ea]
  rfl

end Cert.ReferenceIdeal.Line
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref.Run
public import proofs.«01_k».proof.Proof.Ker.Run
public import proofs.«01_k».proof.Proof.Math.Results
public import Idealize.ShloMosaic.Adequacy
public import Idealize.ShloMosaic.Init

@[expose] public section

noncomputable section

namespace Cert.Proof

open Idealize.ShloMosaic Idealize.SL.Sem Cert.Kernel

/-- The reference runs, leaves its arguments alone and ends with every counter at zero. -/
theorem reference_frame : quiescent_ReferenceIdeal (hReferenceIdeal := Cert.ReferenceIdeal.Gen.facts) := by
  letI := Cert.ReferenceIdeal.Gen.facts
  intro m g _
  refine θ_run_mono (Cert.ReferenceIdeal.Line.run m g) ?_
  intro r hr
  exact ⟨fun c => ⟨(hr.1 c).1, (hr.1 c).2.1⟩, hr.2⟩

open Cert.ReferenceIdeal.Line in
/-- The kernel and the reference end with the same five results. -/
theorem same_results : algebraic_KernelIdeal_ReferenceIdeal (hKernelIdeal := Cert.KernelIdeal.Gen.facts)
    (hReferenceIdeal := Cert.ReferenceIdeal.Gen.facts) := by
  letI := Cert.KernelIdeal.Gen.facts
  letI := Cert.ReferenceIdeal.Gen.facts
  intro m g m' g' _ hagree
  refine ⟨_, _, _, _, _, θ_run_mono (Cert.KernelIdeal.Run.run m g) fun r h c => h c, ?_⟩
  refine θ_run_mono (run m' g') ?_
  intro r hr c
  obtain ⟨a0, a1, l, t, p, e, q⟩ := hr.1 c
  have hi : ∀ n, IsCode (codes (F := Ideal) (m' (c.tc.loc Cert.ReferenceIdeal.main_arg0)) (m' (c.tc.loc Cert.ReferenceIdeal.main_arg1)) (ix1 n)) :=
    fun n => nearest_isCode _ (ix1 n)
  rw [← (hagree c).1, ← (hagree c).2]
  refine ⟨l.trans ?_, t.trans ?_, p.trans ?_, e.trans ?_, q, a0, a1⟩
  · exact (loss_eq _ _ _ hi).symm
  · exact (through_eq _ _ _ hi).symm
  · exact (perplexity_eq _ hi).symm
  · exact (enc_eq_oneHot _ hi).symm

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, same_results⟩

end Cert.Proof

end
